-- ==== Defs.lean ====
def Pre_Version (m : (ℓ : Loc Cert.Version.nD Cert.Version.τ Cert.Version.sig) → Buf (Elt Bits) ℓ) : Prop :=
  True

def Pre_VersionIdeal (m : (ℓ : Loc Cert.VersionIdeal.nD Cert.VersionIdeal.τ Cert.VersionIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Version [hVersion : Cert.Version.Facts] : Prop :=
  ∀ (m : (ℓ : Loc Cert.Version.nD Cert.Version.τ Cert.Version.sig) → Buf (Elt Bits) ℓ) (g : Dev Cert.Version.nD → PrngReg), Pre_Version m →
    θ_run (Cert.Version.defs (F := Bits)) (onTc (τ := Cert.Version.τ) (Cert.Version.main (F := Bits))) ⟨m, fun _ => 0, g⟩ (fun r => (∀ c : Dev Cert.Version.nD,
      r.2.mem ((c.tc : Thread Cert.Version.nD Cert.Version.τ).loc Cert.Version.main_arg0) = m ((c.tc : Thread Cert.Version.nD Cert.Version.τ).loc Cert.Version.main_arg0)
      ∧ r.2.mem ((c.tc : Thread Cert.Version.nD Cert.Version.τ).loc Cert.Version.main_arg1) = m ((c.tc : Thread Cert.Version.nD Cert.Version.τ).loc Cert.Version.main_arg1)
      ∧ r.2.mem ((c.tc : Thread Cert.Version.nD Cert.Version.τ).loc Cert.Version.main_arg2) = m ((c.tc : Thread Cert.Version.nD Cert.Version.τ).loc Cert.Version.main_arg2)
      ∧ r.2.mem ((c.tc : Thread Cert.Version.nD Cert.Version.τ).loc Cert.Version.main_arg3) = m ((c.tc : Thread Cert.Version.nD Cert.Version.τ).loc Cert.Version.main_arg3)
      ∧ r.2.mem ((c.tc : Thread Cert.Version.nD Cert.Version.τ).loc Cert.Version.main_arg4) = m ((c.tc : Thread Cert.Version.nD Cert.Version.τ).loc Cert.Version.main_arg4)
      ∧ r.2.mem ((c.tc : Thread Cert.Version.nD Cert.Version.τ).loc Cert.Version.main_arg5) = m ((c.tc : Thread Cert.Version.nD Cert.Version.τ).loc Cert.Version.main_arg5)
      ∧ r.2.mem ((c.tc : Thread Cert.Version.nD Cert.Version.τ).loc Cert.Version.main_arg6) = m ((c.tc : Thread Cert.Version.nD Cert.Version.τ).loc Cert.Version.main_arg6)
      ∧ r.2.mem ((c.tc : Thread Cert.Version.nD Cert.Version.τ).loc Cert.Version.main_arg7) = m ((c.tc : Thread Cert.Version.nD Cert.Version.τ).loc Cert.Version.main_arg7)
      ∧ r.2.mem ((c.tc : Thread Cert.Version.nD Cert.Version.τ).loc Cert.Version.main_arg8) = m ((c.tc : Thread Cert.Version.nD Cert.Version.τ).loc Cert.Version.main_arg8)
      ∧ r.2.mem ((c.tc : Thread Cert.Version.nD Cert.Version.τ).loc Cert.Version.main_arg9) = m ((c.tc : Thread Cert.Version.nD Cert.Version.τ).loc Cert.Version.main_arg9)
      ∧ r.2.mem ((c.tc : Thread Cert.Version.nD Cert.Version.τ).loc Cert.Version.main_arg10) = m ((c.tc : Thread Cert.Version.nD Cert.Version.τ).loc Cert.Version.main_arg10)
      ∧ r.2.mem ((c.tc : Thread Cert.Version.nD Cert.Version.τ).loc Cert.Version.main_arg11) = m ((c.tc : Thread Cert.Version.nD Cert.Version.τ).loc Cert.Version.main_arg11)
      ∧ r.2.mem ((c.tc : Thread Cert.Version.nD Cert.Version.τ).loc Cert.Version.main_arg12) = m ((c.tc : Thread Cert.Version.nD Cert.Version.τ).loc Cert.Version.main_arg12)
      ∧ r.2.mem ((c.tc : Thread Cert.Version.nD Cert.Version.τ).loc Cert.Version.main_arg13) = m ((c.tc : Thread Cert.Version.nD Cert.Version.τ).loc Cert.Version.main_arg13))
      ∧ r.2.sem = fun _ => 0)

def quiescent_VersionIdeal [hVersionIdeal : Cert.VersionIdeal.Facts] : Prop :=
  ∀ (m : (ℓ : Loc Cert.VersionIdeal.nD Cert.VersionIdeal.τ Cert.VersionIdeal.sig) → Buf (Elt Ideal) ℓ) (g : Dev Cert.VersionIdeal.nD → PrngReg), Pre_VersionIdeal m →
    θ_run (Cert.VersionIdeal.defs (F := Ideal)) (onTc (τ := Cert.VersionIdeal.τ) (Cert.VersionIdeal.main (F := Ideal))) ⟨m, fun _ => 0, g⟩ (fun r => (∀ c : Dev Cert.VersionIdeal.nD,
      r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
      ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
      ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
      ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
      ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4)
      ∧ r.2.mem ((c.tc : Thread Cert.VersionIdeal.nD Cert.VersionIdeal.τ).loc Cert.VersionIdeal.main_arg5) = m ((c.tc : Thread Cert.VersionIdeal.nD Cert.VersionIdeal.τ).loc Cert.VersionIdeal.main_arg5)
      ∧ r.2.mem ((c.tc : Thread Cert.VersionIdeal.nD Cert.VersionIdeal.τ).loc Cert.VersionIdeal.main_arg6) = m ((c.tc : Thread Cert.VersionIdeal.nD Cert.VersionIdeal.τ).loc Cert.VersionIdeal.main_arg6)
      ∧ r.2.mem ((c.tc : Thread Cert.VersionIdeal.nD Cert.VersionIdeal.τ).loc Cert.VersionIdeal.main_arg7) = m ((c.tc : Thread Cert.VersionIdeal.nD Cert.VersionIdeal.τ).loc Cert.VersionIdeal.main_arg7)
      ∧ r.2.mem ((c.tc : Thread Cert.VersionIdeal.nD Cert.VersionIdeal.τ).loc Cert.VersionIdeal.main_arg8) = m ((c.tc : Thread Cert.VersionIdeal.nD Cert.VersionIdeal.τ).loc Cert.VersionIdeal.main_arg8)
      ∧ r.2.mem ((c.tc : Thread Cert.VersionIdeal.nD Cert.VersionIdeal.τ).loc Cert.VersionIdeal.main_arg9) = m ((c.tc : Thread Cert.VersionIdeal.nD Cert.VersionIdeal.τ).loc Cert.VersionIdeal.main_arg9)
      ∧ r.2.mem ((c.tc : Thread Cert.VersionIdeal.nD Cert.VersionIdeal.τ).loc Cert.VersionIdeal.main_arg10) = m ((c.tc : Thread Cert.VersionIdeal.nD Cert.VersionIdeal.τ).loc Cert.VersionIdeal.main_arg10)
      ∧ r.2.mem ((c.tc : Thread Cert.VersionIdeal.nD Cert.VersionIdeal.τ).loc Cert.VersionIdeal.main_arg11) = m ((c.tc : Thread Cert.VersionIdeal.nD Cert.VersionIdeal.τ).loc Cert.VersionIdeal.main_arg11)
      ∧ r.2.mem ((c.tc : Thread Cert.VersionIdeal.nD Cert.VersionIdeal.τ).loc Cert.VersionIdeal.main_arg12) = m ((c.tc : Thread Cert.VersionIdeal.nD Cert.VersionIdeal.τ).loc Cert.VersionIdeal.main_arg12)
      ∧ r.2.mem ((c.tc : Thread Cert.VersionIdeal.nD Cert.VersionIdeal.τ).loc Cert.VersionIdeal.main_arg13) = m ((c.tc : Thread Cert.VersionIdeal.nD Cert.VersionIdeal.τ).loc Cert.VersionIdeal.main_arg13))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Version_VersionIdeal : Prop :=
  IdealRules.sign_bit.Statement Cert.VersionIdeal.S4096x96 .f32

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hVersion : Cert.Version.Facts) (hVersionIdeal : Cert.VersionIdeal.Facts) (hKernel : Cert.Kernel.Facts) (hKernelIdeal : Cert.KernelIdeal.Facts) (hReferenceIdeal : Cert.ReferenceIdeal.Facts) (hPre_finite : Cert.Pre_finite.Facts),
    quiescent_Version (hVersion := hVersion)
    ∧ quiescent_VersionIdeal (hVersionIdeal := hVersionIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Version_VersionIdeal
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x96x64x64 : Shape := ⟨4, ![1, 96, 64, 64]⟩
abbrev S7x1x96x64x64 : Shape := ⟨5, ![7, 1, 96, 64, 64]⟩
abbrev S96x96x3x3 : Shape := ⟨4, ![96, 96, 3, 3]⟩
abbrev S96 : Shape := ⟨1, ![96]⟩
abbrev S504x96x1x1 : Shape := ⟨4, ![504, 96, 1, 1]⟩
abbrev S504 : Shape := ⟨1, ![504]⟩
abbrev S252x96x1x1 : Shape := ⟨4, ![252, 96, 1, 1]⟩
abbrev S252 : Shape := ⟨1, ![252]⟩
abbrev S96x96x1x1 : Shape := ⟨4, ![96, 96, 1, 1]⟩
abbrev S_ : Shape := ⟨0, ![]⟩

class Facts : Prop where
  bcast_S_S1x96x64x64 : S_.BroadcastsInDim S1x96x64x64 (![] : Fin 0 → Fin S1x96x64x64.rank)
  reducesTo_S1x96x64x64_S_d0_1_2_3 : S1x96x64x64.ReducesTo [0, 1, 2, 3] S_
  h_S_ : 0 < S_.numel
  bcast_S_S96x96x3x3 : S_.BroadcastsInDim S96x96x3x3 (![] : Fin 0 → Fin S96x96x3x3.rank)
  reducesTo_S96x96x3x3_S_d0_1_2_3 : S96x96x3x3.ReducesTo [0, 1, 2, 3] S_
  bcast_S_S96 : S_.BroadcastsInDim S96 (![] : Fin 0 → Fin S96.rank)
  reducesTo_S96_S_d0 : S96.ReducesTo [0] S_
  bcast_S_S252x96x1x1 : S_.BroadcastsInDim S252x96x1x1 (![] : Fin 0 → Fin S252x96x1x1.rank)
  reducesTo_S252x96x1x1_S_d0_1_2_3 : S252x96x1x1.ReducesTo [0, 1, 2, 3] S_
  bcast_S_S252 : S_.BroadcastsInDim S252 (![] : Fin 0 → Fin S252.rank)
  reducesTo_S252_S_d0 : S252.ReducesTo [0] S_

variable [Facts]

def fn_part1 {F : FTy → Type} [FloatOps F] (main_arg9 : FVec F S252 .f32) (main_v13 : IVec S_ 1) (main_v16 : IVec S252x96x1x1 1) : IVec S_ 1 :=
  let main_c_5 : IVec S_ 1 := constantI S_ 1 1#1
  let main_v17 : IVec S_ 1 := (fun x v => Host.reduce IntOp.andi x v reducesTo_S252x96x1x1_S_d0_1_2_3 h_S_) main_v16 main_c_5
  let main_v18 : IVec S_ 1 := andi main_v13 main_v17
  let main_v19 : FVec F S252 .f32 := Host.absf main_arg9
  let main_cst_6 : FVec F S_ .f32 := constant S_ .f32 0x7F800000#32
  let main_v20 : FVec F S252 .f32 := broadcastInDim S252 ![] bcast_S_S252 main_cst_6
  let main_v21 : IVec S252 1 := cmpf .olt main_v19 main_v20
  let main_c_7 : IVec S_ 1 := constantI S_ 1 1#1
  let main_v22 : IVec S_ 1 := (fun x v => Host.reduce IntOp.andi x v reducesTo_S252_S_d0 h_S_) main_v21 main_c_7
  let main_v23 : IVec S_ 1 := andi main_v18 main_v22
  main_v23

def fn {F : FTy → Type} [FloatOps F] (main_arg0 : FVec F S1x96x64x64 .f32) (main_arg1 : FVec F S7x1x96x64x64 .f32) (main_arg2 : FVec F S96x96x3x3 .f32) (main_arg3 : FVec F S96 .f32) (main_arg4 : FVec F S504x96x1x1 .f32) (main_arg5 : FVec F S504 .f32) (main_arg6 : FVec F S96x96x3x3 .f32) (main_arg7 : FVec F S96 .f32) (main_arg8 : FVec F S252x96x1x1 .f32) (main_arg9 : FVec F S252 .f32) (main_arg10 : FVec F S96x96x1x1 .f32) (main_arg11 : FVec F S96 .f32) (main_arg12 : FVec F S96x96x1x1 .f32) (main_arg13 : FVec F S96 .f32) : IVec S_ 1 :=
  let main_v0 : FVec F S1x96x64x64 .f32 := Host.absf main_arg0
  let main_cst : FVec F S_ .f32 := constant S_ .f32 0x7F800000#32
  let main_v1 : FVec F S1x96x64x64 .f32 := broadcastInDim S1x96x64x64 ![] bcast_S_S1x96x64x64 main_cst
  let main_v2 : IVec S1x96x64x64 1 := cmpf .olt main_v0 main_v1
  let main_c : IVec S_ 1 := constantI S_ 1 1#1
  let main_v3 : IVec S_ 1 := (fun x v => Host.reduce IntOp.andi x v reducesTo_S1x96x64x64_S_d0_1_2_3 h_S_) main_v2 main_c
  let main_v4 : FVec F S96x96x3x3 .f32 := Host.absf main_arg6
  let main_cst_0 : FVec F S_ .f32 := constant S_ .f32 0x7F800000#32
  let main_v5 : FVec F S96x96x3x3 .f32 := broadcastInDim S96x96x3x3 ![] bcast_S_S96x96x3x3 main_cst_0
  let main_v6 : IVec S96x96x3x3 1 := cmpf .olt main_v4 main_v5
  let main_c_1 : IVec S_ 1 := constantI S_ 1 1#1
  let main_v7 : IVec S_ 1 := (fun x v => Host.reduce IntOp.andi x v reducesTo_S96x96x3x3_S_d0_1_2_3 h_S_) main_v6 main_c_1
  let main_v8 : IVec S_ 1 := andi main_v3 main_v7
  let main_v9 : FVec F S96 .f32 := Host.absf main_arg7
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S252x96x1x1 .f32 := Host.absf main_arg8
  let main_cst_4 : FVec F S_ .f32 := constant S_ .f32 0x7F800000#32
  let main_v15 : FVec F S252x96x1x1 .f32 := broadcastInDim S252x96x1x1 ![] bcast_S_S252x96x1x1 main_cst_4
  let main_v16 : IVec S252x96x1x1 1 := cmpf .olt main_v14 main_v15
  fn_part1 (F := F) main_arg9 main_v13 main_v16
-- ==== Version.lean ====
abbrev S1x96x64x64 : Shape := ⟨4, ![1, 96, 64, 64]⟩
abbrev S7x1x96x64x64 : Shape := ⟨5, ![7, 1, 96, 64, 64]⟩
abbrev S96x96x3x3 : Shape := ⟨4, ![96, 96, 3, 3]⟩
abbrev S96 : Shape := ⟨1, ![96]⟩
abbrev S504x96x1x1 : Shape := ⟨4, ![504, 96, 1, 1]⟩
abbrev S504 : Shape := ⟨1, ![504]⟩
abbrev S252x96x1x1 : Shape := ⟨4, ![252, 96, 1, 1]⟩
abbrev S252 : Shape := ⟨1, ![252]⟩
abbrev S96x96x1x1 : Shape := ⟨4, ![96, 96, 1, 1]⟩
abbrev S96x64x64 : Shape := ⟨3, ![96, 64, 64]⟩
abbrev S64x64x96 : Shape := ⟨3, ![64, 64, 96]⟩
abbrev S_ : Shape := ⟨0, ![]⟩
abbrev S66x66x96 : Shape := ⟨3, ![66, 66, 96]⟩
abbrev S4096x96 : Shape := ⟨2, ![4096, 96]⟩
abbrev S3x3x96x96 : Shape := ⟨4, ![3, 3, 96, 96]⟩
abbrev S9x96x96 : Shape := ⟨3, ![9, 96, 96]⟩
abbrev S504x96 : Shape := ⟨2, ![504, 96]⟩
abbrev S96x504 : Shape := ⟨2, ![96, 504]⟩
abbrev S252x96 : Shape := ⟨2, ![252, 96]⟩
abbrev S96x252 : Shape := ⟨2, ![96, 252]⟩
abbrev S1x96 : Shape := ⟨2, ![1, 96]⟩
abbrev S1x504 : Shape := ⟨2, ![1, 504]⟩
abbrev S1x252 : Shape := ⟨2, ![1, 252]⟩
abbrev S4096x504 : Shape := ⟨2, ![4096, 504]⟩
abbrev S4096x252 : Shape := ⟨2, ![4096, 252]⟩
abbrev S1x96x96 : Shape := ⟨3, ![1, 96, 96]⟩
abbrev S96x96 : Shape := ⟨2, ![96, 96]⟩
abbrev S4096x63 : Shape := ⟨2, ![4096, 63]⟩
abbrev S4096 : Shape := ⟨1, ![4096]⟩
abbrev S4096x1 : Shape := ⟨2, ![4096, 1]⟩
abbrev S4096x4x7x9x2 : Shape := ⟨5, ![4096, 4, 7, 9, 2]⟩
abbrev S7x4096x4x9x2 : Shape := ⟨5, ![7, 4096, 4, 9, 2]⟩
abbrev S7x4096x72 : Shape := ⟨3, ![7, 4096, 72]⟩
abbrev S4096x4x7x9 : Shape := ⟨4, ![4096, 4, 7, 9]⟩
abbrev S7x4096x4x9 : Shape := ⟨4, ![7, 4096, 4, 9]⟩
abbrev S7x4096x36 : Shape := ⟨3, ![7, 4096, 36]⟩
abbrev S7x96x64x64 : Shape := ⟨4, ![7, 96, 64, 64]⟩
abbrev S7x64x64x96 : Shape := ⟨4, ![7, 64, 64, 96]⟩
abbrev S28672x96 : Shape := ⟨2, ![28672, 96]⟩
abbrev S7x64x64x4x24 : Shape := ⟨5, ![7, 64, 64, 4, 24]⟩
abbrev S7x4x64x24x64 : Shape := ⟨5, ![7, 4, 64, 24, 64]⟩
abbrev S7x4x64x1536 : Shape := ⟨4, ![7, 4, 64, 1536]⟩
abbrev S1x4x64x1536 : Shape := ⟨4, ![1, 4, 64, 1536]⟩
abbrev S1x256x72 : Shape := ⟨3, ![1, 256, 72]⟩
abbrev S1x256x36 : Shape := ⟨3, ![1, 256, 36]⟩
abbrev S256x96 : Shape := ⟨2, ![256, 96]⟩
abbrev S256x1 : Shape := ⟨2, ![256, 1]⟩
abbrev S256x64 : Shape := ⟨2, ![256, 64]⟩
abbrev S256x1536 : Shape := ⟨2, ![256, 1536]⟩
abbrev S1536x24 : Shape := ⟨2, ![1536, 24]⟩
abbrev S256x72 : Shape := ⟨2, ![256, 72]⟩
abbrev S256x36 : Shape := ⟨2, ![256, 36]⟩
abbrev S1x1x64x1536 : Shape := ⟨4, ![1, 1, 64, 1536]⟩
abbrev S64x1536 : Shape := ⟨2, ![64, 1536]⟩
abbrev S256x24 : Shape := ⟨2, ![256, 24]⟩

abbrev nBuf : Space → Nat
  | .hbm => 58
  | .vmem => 29
  | .smem => 0
  | _ => 0

abbrev bufTy : (tb : Table) → Fin (tcTables nBuf tb) → BufTy
  | .hbm, ⟨0, _⟩ => ⟨S1x96x64x64, .f32⟩
  | .hbm, ⟨1, _⟩ => ⟨S7x1x96x64x64, .f32⟩
  | .hbm, ⟨2, _⟩ => ⟨S96x96x3x3, .f32⟩
  | .hbm, ⟨3, _⟩ => ⟨S96, .f32⟩
  | .hbm, ⟨4, _⟩ => ⟨S504x96x1x1, .f32⟩
  | .hbm, ⟨5, _⟩ => ⟨S504, .f32⟩
  | .hbm, ⟨6, _⟩ => ⟨S96x96x3x3, .f32⟩
  | .hbm, ⟨7, _⟩ => ⟨S96, .f32⟩
  | .hbm, ⟨8, _⟩ => ⟨S252x96x1x1, .f32⟩
  | .hbm, ⟨9, _⟩ => ⟨S252, .f32⟩
  | .hbm, ⟨10, _⟩ => ⟨S96x96x1x1, .f32⟩
  | .hbm, ⟨11, _⟩ => ⟨S96, .f32⟩
  | .hbm, ⟨12, _⟩ => ⟨S96x96x1x1, .f32⟩
  | .hbm, ⟨13, _⟩ => ⟨S96, .f32⟩
  | .hbm, ⟨14, _⟩ => ⟨S96x64x64, .f32⟩
  | .hbm, ⟨15, _⟩ => ⟨S64x64x96, .f32⟩
  | .hbm, ⟨16, _⟩ => ⟨S_, .i32⟩
  | .hbm, ⟨17, _⟩ => ⟨S_, .f32⟩
  | .hbm, ⟨18, _⟩ => ⟨S66x66x96, .f32⟩
  | .hbm, ⟨19, _⟩ => ⟨S4096x96, .f32⟩
  | .hbm, ⟨20, _⟩ => ⟨S3x3x96x96, .f32⟩
  | .hbm, ⟨21, _⟩ => ⟨S9x96x96, .f32⟩
  | .hbm, ⟨22, _⟩ => ⟨S3x3x96x96, .f32⟩
  | .hbm, ⟨23, _⟩ => ⟨S9x96x96, .f32⟩
  | .hbm, ⟨24, _⟩ => ⟨S504x96, .f32⟩
  | .hbm, ⟨25, _⟩ => ⟨S96x504, .f32⟩
  | .hbm, ⟨26, _⟩ => ⟨S252x96, .f32⟩
  | .hbm, ⟨27, _⟩ => ⟨S96x252, .f32⟩
  | .hbm, ⟨28, _⟩ => ⟨S1x96, .f32⟩
  | .hbm, ⟨29, _⟩ => ⟨S1x504, .f32⟩
  | .hbm, ⟨30, _⟩ => ⟨S1x96, .f32⟩
  | .hbm, ⟨31, _⟩ => ⟨S1x252, .f32⟩
  | .hbm, ⟨32, _⟩ => ⟨S4096x504, .f32⟩
  | .hbm, ⟨33, _⟩ => ⟨S4096x252, .f32⟩
  | .hbm, ⟨34, _⟩ => ⟨S4096x4x7x9x2, .f32⟩
  | .hbm, ⟨35, _⟩ => ⟨S7x4096x4x9x2, .f32⟩
  | .hbm, ⟨36, _⟩ => ⟨S7x4096x72, .f32⟩
  | .hbm, ⟨37, _⟩ => ⟨S4096x4x7x9, .f32⟩
  | .hbm, ⟨38, _⟩ => ⟨S7x4096x4x9, .f32⟩
  | .hbm, ⟨39, _⟩ => ⟨S7x4096x36, .f32⟩
  | .hbm, ⟨40, _⟩ => ⟨S7x96x64x64, .f32⟩
  | .hbm, ⟨41, _⟩ => ⟨S7x64x64x96, .f32⟩
  | .hbm, ⟨42, _⟩ => ⟨S28672x96, .f32⟩
  | .hbm, ⟨43, _⟩ => ⟨S96x96, .f32⟩
  | .hbm, ⟨44, _⟩ => ⟨S96x96, .f32⟩
  | .hbm, ⟨45, _⟩ => ⟨S1x96, .f32⟩
  | .hbm, ⟨46, _⟩ => ⟨S28672x96, .f32⟩
  | .hbm, ⟨47, _⟩ => ⟨S7x64x64x4x24, .f32⟩
  | .hbm, ⟨48, _⟩ => ⟨S7x4x64x24x64, .f32⟩
  | .hbm, ⟨49, _⟩ => ⟨S7x4x64x1536, .f32⟩
  | .hbm, ⟨50, _⟩ => ⟨S96x96, .f32⟩
  | .hbm, ⟨51, _⟩ => ⟨S96x96, .f32⟩
  | .hbm, ⟨52, _⟩ => ⟨S1x96, .f32⟩
  | .hbm, ⟨53, _⟩ => ⟨S4096x96, .f32⟩
  | .hbm, ⟨54, _⟩ => ⟨S4096x96, .f32⟩
  | .hbm, ⟨55, _⟩ => ⟨S64x64x96, .f32⟩
  | .hbm, ⟨56, _⟩ => ⟨S96x64x64, .f32⟩
  | .hbm, ⟨57, _⟩ => ⟨S1x96x64x64, .f32⟩
  | .local _ .vmem, ⟨0, _⟩ => ⟨S66x66x96, .f32⟩
  | .local _ .vmem, ⟨1, _⟩ => ⟨S9x96x96, .f32⟩
  | .local _ .vmem, ⟨2, _⟩ => ⟨S1x96, .f32⟩
  | .local _ .vmem, ⟨3, _⟩ => ⟨S96x504, .f32⟩
  | .local _ .vmem, ⟨4, _⟩ => ⟨S1x504, .f32⟩
  | .local _ .vmem, ⟨5, _⟩ => ⟨S9x96x96, .f32⟩
  | .local _ .vmem, ⟨6, _⟩ => ⟨S1x96, .f32⟩
  | .local _ .vmem, ⟨7, _⟩ => ⟨S96x252, .f32⟩
  | .local _ .vmem, ⟨8, _⟩ => ⟨S1x252, .f32⟩
  | .local _ .vmem, ⟨9, _⟩ => ⟨S4096x504, .f32⟩
  | .local _ .vmem, ⟨10, _⟩ => ⟨S4096x252, .f32⟩
  | .local _ .vmem, ⟨11, _⟩ => ⟨S28672x96, .f32⟩
  | .local _ .vmem, ⟨12, _⟩ => ⟨S96x96, .f32⟩
  | .local _ .vmem, ⟨13, _⟩ => ⟨S1x96, .f32⟩
  | .local _ .vmem, ⟨14, _⟩ => ⟨S28672x96, .f32⟩
  | .local _ .vmem, ⟨15, _⟩ => ⟨S1x4x64x1536, .f32⟩
  | .local _ .vmem, ⟨16, _⟩ => ⟨S1x4x64x1536, .f32⟩
  | .local _ .vmem, ⟨17, _⟩ => ⟨S1x256x72, .f32⟩
  | .local _ .vmem, ⟨18, _⟩ => ⟨S1x256x72, .f32⟩
  | .local _ .vmem, ⟨19, _⟩ => ⟨S1x256x36, .f32⟩
  | .local _ .vmem, ⟨20, _⟩ => ⟨S1x256x36, .f32⟩
  | .local _ .vmem, ⟨21, _⟩ => ⟨S256x96, .f32⟩
  | .local _ .vmem, ⟨22, _⟩ => ⟨S256x96, .f32⟩
  | .local _ .vmem, ⟨23, _⟩ => ⟨S96x96, .f32⟩
  | .local _ .vmem, ⟨24, _⟩ => ⟨S1x96, .f32⟩
  | .local _ .vmem, ⟨25, _⟩ => ⟨S256x96, .f32⟩
  | .local _ .vmem, ⟨26, _⟩ => ⟨S256x96, .f32⟩
  | .local _ .vmem, ⟨27, _⟩ => ⟨S256x96, .f32⟩
  | .local _ .vmem, ⟨28, _⟩ => ⟨S256x96, .f32⟩
  | _, _ => ⟨S1x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28

abbrev nD : Nat := 1
abbrev τ : Topo := Topo.v7x

variable {F : FTy → Type} [BitOps F]

abbrev grid0 : Pipeline.Grid := .none

abbrev stage0_0 : Fin 1 → Memref sig .tc .vmem S66x66x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x252 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x252 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x504 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x252 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

abbrev stage1_0 : Fin 1 → Memref sig .tc .vmem S28672x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S28672x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![16, 7], ![false, false]⟩

def k2_cond2 (i : grid2.Coords) : BitVec 1 :=
  let arg1 : BitVec 32 := BitVec.ofNat 32 (i 1).val
  let c6_i32 : BitVec 32 := 6#32
  let v1953 : BitVec 1 := Scalar.cmpi .eq arg1 c6_i32
  let v1954 : BitVec 32 := Scalar.extui v1953
  let c0_i32_410 : BitVec 32 := 0#32
  let v1955 : BitVec 1 := Scalar.cmpi .ne v1954 c0_i32_410
  v1955

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4x64x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x256x72 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x36 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S256x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== VersionIdeal.lean ====
variable {F : FTy → Type} [FloatOps F]
-- ==== Kernel.lean ====
abbrev S1x96x64x64 : Shape := ⟨4, ![1, 96, 64, 64]⟩
abbrev S7x1x96x64x64 : Shape := ⟨5, ![7, 1, 96, 64, 64]⟩
abbrev S96x96x3x3 : Shape := ⟨4, ![96, 96, 3, 3]⟩
abbrev S96 : Shape := ⟨1, ![96]⟩
abbrev S504x96x1x1 : Shape := ⟨4, ![504, 96, 1, 1]⟩
abbrev S504 : Shape := ⟨1, ![504]⟩
abbrev S252x96x1x1 : Shape := ⟨4, ![252, 96, 1, 1]⟩
abbrev S252 : Shape := ⟨1, ![252]⟩
abbrev S96x96x1x1 : Shape := ⟨4, ![96, 96, 1, 1]⟩
abbrev S96x64x64 : Shape := ⟨3, ![96, 64, 64]⟩
abbrev S64x64x96 : Shape := ⟨3, ![64, 64, 96]⟩
abbrev S_ : Shape := ⟨0, ![]⟩
abbrev S66x66x96 : Shape := ⟨3, ![66, 66, 96]⟩
abbrev S4096x96 : Shape := ⟨2, ![4096, 96]⟩
abbrev S3x3x96x96 : Shape := ⟨4, ![3, 3, 96, 96]⟩
abbrev S9x96x96 : Shape := ⟨3, ![9, 96, 96]⟩
abbrev S504x96 : Shape := ⟨2, ![504, 96]⟩
abbrev S96x504 : Shape := ⟨2, ![96, 504]⟩
abbrev S252x96 : Shape := ⟨2, ![252, 96]⟩
abbrev S96x252 : Shape := ⟨2, ![96, 252]⟩
abbrev S1x96 : Shape := ⟨2, ![1, 96]⟩
abbrev S1x504 : Shape := ⟨2, ![1, 504]⟩
abbrev S1x252 : Shape := ⟨2, ![1, 252]⟩
abbrev S4096x504 : Shape := ⟨2, ![4096, 504]⟩
abbrev S4096x252 : Shape := ⟨2, ![4096, 252]⟩
abbrev S1x96x96 : Shape := ⟨3, ![1, 96, 96]⟩
abbrev S96x96 : Shape := ⟨2, ![96, 96]⟩
abbrev S4096x63 : Shape := ⟨2, ![4096, 63]⟩
abbrev S4096 : Shape := ⟨1, ![4096]⟩
abbrev S4096x1 : Shape := ⟨2, ![4096, 1]⟩
abbrev S4096x4x7x9x2 : Shape := ⟨5, ![4096, 4, 7, 9, 2]⟩
abbrev S7x4096x4x9x2 : Shape := ⟨5, ![7, 4096, 4, 9, 2]⟩
abbrev S7x4096x72 : Shape := ⟨3, ![7, 4096, 72]⟩
abbrev S4096x4x7x9 : Shape := ⟨4, ![4096, 4, 7, 9]⟩
abbrev S7x4096x4x9 : Shape := ⟨4, ![7, 4096, 4, 9]⟩
abbrev S7x4096x36 : Shape := ⟨3, ![7, 4096, 36]⟩
abbrev S7x96x64x64 : Shape := ⟨4, ![7, 96, 64, 64]⟩
abbrev S7x64x64x96 : Shape := ⟨4, ![7, 64, 64, 96]⟩
abbrev S28672x96 : Shape := ⟨2, ![28672, 96]⟩
abbrev S7x64x64x4x24 : Shape := ⟨5, ![7, 64, 64, 4, 24]⟩
abbrev S7x4x64x24x64 : Shape := ⟨5, ![7, 4, 64, 24, 64]⟩
abbrev S7x4x64x1536 : Shape := ⟨4, ![7, 4, 64, 1536]⟩
abbrev S1x4x64x1536 : Shape := ⟨4, ![1, 4, 64, 1536]⟩
abbrev S1x256x72 : Shape := ⟨3, ![1, 256, 72]⟩
abbrev S1x256x36 : Shape := ⟨3, ![1, 256, 36]⟩
abbrev S256x96 : Shape := ⟨2, ![256, 96]⟩
abbrev S256x1 : Shape := ⟨2, ![256, 1]⟩
abbrev S256x64 : Shape := ⟨2, ![256, 64]⟩
abbrev S256x1536 : Shape := ⟨2, ![256, 1536]⟩
abbrev S1536x24 : Shape := ⟨2, ![1536, 24]⟩
abbrev S256x72 : Shape := ⟨2, ![256, 72]⟩
abbrev S256x36 : Shape := ⟨2, ![256, 36]⟩
abbrev S1x1x64x1536 : Shape := ⟨4, ![1, 1, 64, 1536]⟩
abbrev S64x1536 : Shape := ⟨2, ![64, 1536]⟩
abbrev S256x24 : Shape := ⟨2, ![256, 24]⟩

abbrev nBuf : Space → Nat
  | .hbm => 58
  | .vmem => 29
  | .smem => 0
  | _ => 0

abbrev bufTy : (tb : Table) → Fin (tcTables nBuf tb) → BufTy
  | .hbm, ⟨0, _⟩ => ⟨S1x96x64x64, .f32⟩
  | .hbm, ⟨1, _⟩ => ⟨S7x1x96x64x64, .f32⟩
  | .hbm, ⟨2, _⟩ => ⟨S96x96x3x3, .f32⟩
  | .hbm, ⟨3, _⟩ => ⟨S96, .f32⟩
  | .hbm, ⟨4, _⟩ => ⟨S504x96x1x1, .f32⟩
  | .hbm, ⟨5, _⟩ => ⟨S504, .f32⟩
  | .hbm, ⟨6, _⟩ => ⟨S96x96x3x3, .f32⟩
  | .hbm, ⟨7, _⟩ => ⟨S96, .f32⟩
  | .hbm, ⟨8, _⟩ => ⟨S252x96x1x1, .f32⟩
  | .hbm, ⟨9, _⟩ => ⟨S252, .f32⟩
  | .hbm, ⟨10, _⟩ => ⟨S96x96x1x1, .f32⟩
  | .hbm, ⟨11, _⟩ => ⟨S96, .f32⟩
  | .hbm, ⟨12, _⟩ => ⟨S96x96x1x1, .f32⟩
  | .hbm, ⟨13, _⟩ => ⟨S96, .f32⟩
  | .hbm, ⟨14, _⟩ => ⟨S96x64x64, .f32⟩
  | .hbm, ⟨15, _⟩ => ⟨S64x64x96, .f32⟩
  | .hbm, ⟨16, _⟩ => ⟨S_, .i32⟩
  | .hbm, ⟨17, _⟩ => ⟨S_, .f32⟩
  | .hbm, ⟨18, _⟩ => ⟨S66x66x96, .f32⟩
  | .hbm, ⟨19, _⟩ => ⟨S4096x96, .f32⟩
  | .hbm, ⟨20, _⟩ => ⟨S3x3x96x96, .f32⟩
  | .hbm, ⟨21, _⟩ => ⟨S9x96x96, .f32⟩
  | .hbm, ⟨22, _⟩ => ⟨S3x3x96x96, .f32⟩
  | .hbm, ⟨23, _⟩ => ⟨S9x96x96, .f32⟩
  | .hbm, ⟨24, _⟩ => ⟨S504x96, .f32⟩
  | .hbm, ⟨25, _⟩ => ⟨S96x504, .f32⟩
  | .hbm, ⟨26, _⟩ => ⟨S252x96, .f32⟩
  | .hbm, ⟨27, _⟩ => ⟨S96x252, .f32⟩
  | .hbm, ⟨28, _⟩ => ⟨S1x96, .f32⟩
  | .hbm, ⟨29, _⟩ => ⟨S1x504, .f32⟩
  | .hbm, ⟨30, _⟩ => ⟨S1x96, .f32⟩
  | .hbm, ⟨31, _⟩ => ⟨S1x252, .f32⟩
  | .hbm, ⟨32, _⟩ => ⟨S4096x504, .f32⟩
  | .hbm, ⟨33, _⟩ => ⟨S4096x252, .f32⟩
  | .hbm, ⟨34, _⟩ => ⟨S4096x4x7x9x2, .f32⟩
  | .hbm, ⟨35, _⟩ => ⟨S7x4096x4x9x2, .f32⟩
  | .hbm, ⟨36, _⟩ => ⟨S7x4096x72, .f32⟩
  | .hbm, ⟨37, _⟩ => ⟨S4096x4x7x9, .f32⟩
  | .hbm, ⟨38, _⟩ => ⟨S7x4096x4x9, .f32⟩
  | .hbm, ⟨39, _⟩ => ⟨S7x4096x36, .f32⟩
  | .hbm, ⟨40, _⟩ => ⟨S7x96x64x64, .f32⟩
  | .hbm, ⟨41, _⟩ => ⟨S7x64x64x96, .f32⟩
  | .hbm, ⟨42, _⟩ => ⟨S28672x96, .f32⟩
  | .hbm, ⟨43, _⟩ => ⟨S96x96, .f32⟩
  | .hbm, ⟨44, _⟩ => ⟨S96x96, .f32⟩
  | .hbm, ⟨45, _⟩ => ⟨S1x96, .f32⟩
  | .hbm, ⟨46, _⟩ => ⟨S28672x96, .f32⟩
  | .hbm, ⟨47, _⟩ => ⟨S7x64x64x4x24, .f32⟩
  | .hbm, ⟨48, _⟩ => ⟨S7x4x64x24x64, .f32⟩
  | .hbm, ⟨49, _⟩ => ⟨S7x4x64x1536, .f32⟩
  | .hbm, ⟨50, _⟩ => ⟨S96x96, .f32⟩
  | .hbm, ⟨51, _⟩ => ⟨S96x96, .f32⟩
  | .hbm, ⟨52, _⟩ => ⟨S1x96, .f32⟩
  | .hbm, ⟨53, _⟩ => ⟨S4096x96, .f32⟩
  | .hbm, ⟨54, _⟩ => ⟨S4096x96, .f32⟩
  | .hbm, ⟨55, _⟩ => ⟨S64x64x96, .f32⟩
  | .hbm, ⟨56, _⟩ => ⟨S96x64x64, .f32⟩
  | .hbm, ⟨57, _⟩ => ⟨S1x96x64x64, .f32⟩
  | .local _ .vmem, ⟨0, _⟩ => ⟨S66x66x96, .f32⟩
  | .local _ .vmem, ⟨1, _⟩ => ⟨S9x96x96, .f32⟩
  | .local _ .vmem, ⟨2, _⟩ => ⟨S1x96, .f32⟩
  | .local _ .vmem, ⟨3, _⟩ => ⟨S96x504, .f32⟩
  | .local _ .vmem, ⟨4, _⟩ => ⟨S1x504, .f32⟩
  | .local _ .vmem, ⟨5, _⟩ => ⟨S9x96x96, .f32⟩
  | .local _ .vmem, ⟨6, _⟩ => ⟨S1x96, .f32⟩
  | .local _ .vmem, ⟨7, _⟩ => ⟨S96x252, .f32⟩
  | .local _ .vmem, ⟨8, _⟩ => ⟨S1x252, .f32⟩
  | .local _ .vmem, ⟨9, _⟩ => ⟨S4096x504, .f32⟩
  | .local _ .vmem, ⟨10, _⟩ => ⟨S4096x252, .f32⟩
  | .local _ .vmem, ⟨11, _⟩ => ⟨S28672x96, .f32⟩
  | .local _ .vmem, ⟨12, _⟩ => ⟨S96x96, .f32⟩
  | .local _ .vmem, ⟨13, _⟩ => ⟨S1x96, .f32⟩
  | .local _ .vmem, ⟨14, _⟩ => ⟨S28672x96, .f32⟩
  | .local _ .vmem, ⟨15, _⟩ => ⟨S1x4x64x1536, .f32⟩
  | .local _ .vmem, ⟨16, _⟩ => ⟨S1x4x64x1536, .f32⟩
  | .local _ .vmem, ⟨17, _⟩ => ⟨S1x256x72, .f32⟩
  | .local _ .vmem, ⟨18, _⟩ => ⟨S1x256x72, .f32⟩
  | .local _ .vmem, ⟨19, _⟩ => ⟨S1x256x36, .f32⟩
  | .local _ .vmem, ⟨20, _⟩ => ⟨S1x256x36, .f32⟩
  | .local _ .vmem, ⟨21, _⟩ => ⟨S256x96, .f32⟩
  | .local _ .vmem, ⟨22, _⟩ => ⟨S256x96, .f32⟩
  | .local _ .vmem, ⟨23, _⟩ => ⟨S96x96, .f32⟩
  | .local _ .vmem, ⟨24, _⟩ => ⟨S1x96, .f32⟩
  | .local _ .vmem, ⟨25, _⟩ => ⟨S256x96, .f32⟩
  | .local _ .vmem, ⟨26, _⟩ => ⟨S256x96, .f32⟩
  | .local _ .vmem, ⟨27, _⟩ => ⟨S256x96, .f32⟩
  | .local _ .vmem, ⟨28, _⟩ => ⟨S256x96, .f32⟩
  | _, _ => ⟨S1x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := .none

abbrev stage0_0 : Fin 1 → Memref sig .tc .vmem S66x66x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x252 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x252 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x504 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x252 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

abbrev stage1_0 : Fin 1 → Memref sig .tc .vmem S28672x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S28672x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![16, 7], ![false, false]⟩

def k2_cond2 (i : grid2.Coords) : BitVec 1 :=
  let arg1 : BitVec 32 := BitVec.ofNat 32 (i 1).val
  let c6_i32 : BitVec 32 := 6#32
  let v1953 : BitVec 1 := Scalar.cmpi .eq arg1 c6_i32
  let v1954 : BitVec 32 := Scalar.extui v1953
  let c0_i32_410 : BitVec 32 := 0#32
  let v1955 : BitVec 1 := Scalar.cmpi .ne v1954 c0_i32_410
  v1955

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4x64x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x256x72 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x36 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S256x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== ReferenceIdeal.lean ====
abbrev S1x96x64x64 : Shape := ⟨4, ![1, 96, 64, 64]⟩
abbrev S7x1x96x64x64 : Shape := ⟨5, ![7, 1, 96, 64, 64]⟩
abbrev S96x96x3x3 : Shape := ⟨4, ![96, 96, 3, 3]⟩
abbrev S96 : Shape := ⟨1, ![96]⟩
abbrev S504x96x1x1 : Shape := ⟨4, ![504, 96, 1, 1]⟩
abbrev S504 : Shape := ⟨1, ![504]⟩
abbrev S252x96x1x1 : Shape := ⟨4, ![252, 96, 1, 1]⟩
abbrev S252 : Shape := ⟨1, ![252]⟩
abbrev S96x96x1x1 : Shape := ⟨4, ![96, 96, 1, 1]⟩
abbrev S96x64x64 : Shape := ⟨3, ![96, 64, 64]⟩
abbrev S_ : Shape := ⟨0, ![]⟩
abbrev S96x66x66 : Shape := ⟨3, ![96, 66, 66]⟩
abbrev S96x96 : Shape := ⟨2, ![96, 96]⟩
abbrev S96x1x1 : Shape := ⟨3, ![96, 1, 1]⟩
abbrev S504x96 : Shape := ⟨2, ![504, 96]⟩
abbrev S504x64x64 : Shape := ⟨3, ![504, 64, 64]⟩
abbrev S504x1x1 : Shape := ⟨3, ![504, 1, 1]⟩
abbrev S4x7x9x2x64x64 : Shape := ⟨6, ![4, 7, 9, 2, 64, 64]⟩
abbrev S252x96 : Shape := ⟨2, ![252, 96]⟩
abbrev S252x64x64 : Shape := ⟨3, ![252, 64, 64]⟩
abbrev S252x1x1 : Shape := ⟨3, ![252, 1, 1]⟩
abbrev S4x63x64x64 : Shape := ⟨4, ![4, 63, 64, 64]⟩
abbrev S4x64x64 : Shape := ⟨3, ![4, 64, 64]⟩
abbrev S4x1x64x64 : Shape := ⟨4, ![4, 1, 64, 64]⟩
abbrev S64x64 : Shape := ⟨2, ![64, 64]⟩
abbrev S4x7x9x1x64x64 : Shape := ⟨6, ![4, 7, 9, 1, 64, 64]⟩
abbrev S4x7x9x64x64 : Shape := ⟨5, ![4, 7, 9, 64, 64]⟩
abbrev S1x1x1x64x64 : Shape := ⟨5, ![1, 1, 1, 64, 64]⟩
abbrev S7x96x4096 : Shape := ⟨3, ![7, 96, 4096]⟩
abbrev S96x7x4096 : Shape := ⟨3, ![96, 7, 4096]⟩
abbrev S4x24x7x4096 : Shape := ⟨4, ![4, 24, 7, 4096]⟩
abbrev S4x7x24x4096 : Shape := ⟨4, ![4, 7, 24, 4096]⟩
abbrev S4x7x9x64x64x1 : Shape := ⟨6, ![4, 7, 9, 64, 64, 1]⟩
abbrev S4x7x24x9x64x64 : Shape := ⟨6, ![4, 7, 24, 9, 64, 64]⟩
abbrev S4x7x1x9x64x64 : Shape := ⟨6, ![4, 7, 1, 9, 64, 64]⟩
abbrev S4x7x9x24x64x64 : Shape := ⟨6, ![4, 7, 9, 24, 64, 64]⟩
abbrev S4x63x24x64x64 : Shape := ⟨5, ![4, 63, 24, 64, 64]⟩
abbrev S4x63x1x64x64 : Shape := ⟨5, ![4, 63, 1, 64, 64]⟩
abbrev S4x24x64x64 : Shape := ⟨4, ![4, 24, 64, 64]⟩

abbrev nBuf : Space → Nat
  | .hbm => 481
  | .vmem => 0
  | .smem => 0
  | _ => 0

abbrev hbmTy0_0 (i : Nat) : BufTy := match i % 128 with
  | 0 => ⟨S1x96x64x64, .f32⟩
  | 1 => ⟨S7x1x96x64x64, .f32⟩
  | 2 => ⟨S96x96x3x3, .f32⟩
  | 3 => ⟨S96, .f32⟩
  | 4 => ⟨S504x96x1x1, .f32⟩
  | 5 => ⟨S504, .f32⟩
  | 6 => ⟨S96x96x3x3, .f32⟩
  | 7 => ⟨S96, .f32⟩
  | 8 => ⟨S252x96x1x1, .f32⟩
  | 9 => ⟨S252, .f32⟩
  | 10 => ⟨S96x96x1x1, .f32⟩
  | 11 => ⟨S96, .f32⟩
  | 12 => ⟨S96x96x1x1, .f32⟩
  | 13 => ⟨S96, .f32⟩
  | 14 => ⟨S96x64x64, .f32⟩
  | 15 => ⟨S_, .i32⟩
  | 16 => ⟨S_, .f32⟩
  | 17 => ⟨S96x66x66, .f32⟩
  | 18 => ⟨S_, .f32⟩
  | 19 => ⟨S96x64x64, .f32⟩
  | 20 => ⟨S96x96x1x1, .f32⟩
  | 21 => ⟨S96x96, .f32⟩
  | 22 => ⟨S96x64x64, .f32⟩
  | 23 => ⟨S96x64x64, .f32⟩
  | 24 => ⟨S96x64x64, .f32⟩
  | 25 => ⟨S96x96x1x1, .f32⟩
  | 26 => ⟨S96x96, .f32⟩
  | 27 => ⟨S96x64x64, .f32⟩
  | 28 => ⟨S96x64x64, .f32⟩
  | 29 => ⟨S96x64x64, .f32⟩
  | 30 => ⟨S96x96x1x1, .f32⟩
  | 31 => ⟨S96x96, .f32⟩
  | 32 => ⟨S96x64x64, .f32⟩
  | 33 => ⟨S96x64x64, .f32⟩
  | 34 => ⟨S96x64x64, .f32⟩
  | 35 => ⟨S96x96x1x1, .f32⟩
  | 36 => ⟨S96x96, .f32⟩
  | 37 => ⟨S96x64x64, .f32⟩
  | 38 => ⟨S96x64x64, .f32⟩
  | 39 => ⟨S96x64x64, .f32⟩
  | 40 => ⟨S96x96x1x1, .f32⟩
  | 41 => ⟨S96x96, .f32⟩
  | 42 => ⟨S96x64x64, .f32⟩
  | 43 => ⟨S96x64x64, .f32⟩
  | 44 => ⟨S96x64x64, .f32⟩
  | 45 => ⟨S96x96x1x1, .f32⟩
  | 46 => ⟨S96x96, .f32⟩
  | 47 => ⟨S96x64x64, .f32⟩
  | 48 => ⟨S96x64x64, .f32⟩
  | 49 => ⟨S96x64x64, .f32⟩
  | 50 => ⟨S96x96x1x1, .f32⟩
  | 51 => ⟨S96x96, .f32⟩
  | 52 => ⟨S96x64x64, .f32⟩
  | 53 => ⟨S96x64x64, .f32⟩
  | 54 => ⟨S96x64x64, .f32⟩
  | 55 => ⟨S96x96x1x1, .f32⟩
  | 56 => ⟨S96x96, .f32⟩
  | 57 => ⟨S96x64x64, .f32⟩
  | 58 => ⟨S96x64x64, .f32⟩
  | 59 => ⟨S96x64x64, .f32⟩
  | 60 => ⟨S96x96x1x1, .f32⟩
  | 61 => ⟨S96x96, .f32⟩
  | 62 => ⟨S96x64x64, .f32⟩
  | 63 => ⟨S96x64x64, .f32⟩
  | 64 => ⟨S96x64x64, .f32⟩
  | 65 => ⟨S96x1x1, .f32⟩
  | 66 => ⟨S96x64x64, .f32⟩
  | 67 => ⟨S96x64x64, .f32⟩
  | 68 => ⟨S_, .f32⟩
  | 69 => ⟨S96x64x64, .f32⟩
  | 70 => ⟨S96x64x64, .f32⟩
  | 71 => ⟨S_, .f32⟩
  | 72 => ⟨S96x64x64, .f32⟩
  | 73 => ⟨S96x64x64, .f32⟩
  | 74 => ⟨S96x64x64, .f32⟩
  | 75 => ⟨S_, .f32⟩
  | 76 => ⟨S96x64x64, .f32⟩
  | 77 => ⟨S96x64x64, .f32⟩
  | 78 => ⟨S96x64x64, .f32⟩
  | 79 => ⟨S504x96, .f32⟩
  | 80 => ⟨S504x64x64, .f32⟩
  | 81 => ⟨S504x1x1, .f32⟩
  | 82 => ⟨S504x64x64, .f32⟩
  | 83 => ⟨S504x64x64, .f32⟩
  | 84 => ⟨S504x64x64, .f32⟩
  | 85 => ⟨S_, .f32⟩
  | 86 => ⟨S504x64x64, .f32⟩
  | 87 => ⟨S504x64x64, .f32⟩
  | 88 => ⟨S4x7x9x2x64x64, .f32⟩
  | 89 => ⟨S_, .i32⟩
  | 90 => ⟨S_, .f32⟩
  | 91 => ⟨S96x66x66, .f32⟩
  | 92 => ⟨S_, .f32⟩
  | 93 => ⟨S96x64x64, .f32⟩
  | 94 => ⟨S96x96x1x1, .f32⟩
  | 95 => ⟨S96x96, .f32⟩
  | 96 => ⟨S96x64x64, .f32⟩
  | 97 => ⟨S96x64x64, .f32⟩
  | 98 => ⟨S96x64x64, .f32⟩
  | 99 => ⟨S96x96x1x1, .f32⟩
  | 100 => ⟨S96x96, .f32⟩
  | 101 => ⟨S96x64x64, .f32⟩
  | 102 => ⟨S96x64x64, .f32⟩
  | 103 => ⟨S96x64x64, .f32⟩
  | 104 => ⟨S96x96x1x1, .f32⟩
  | 105 => ⟨S96x96, .f32⟩
  | 106 => ⟨S96x64x64, .f32⟩
  | 107 => ⟨S96x64x64, .f32⟩
  | 108 => ⟨S96x64x64, .f32⟩
  | 109 => ⟨S96x96x1x1, .f32⟩
  | 110 => ⟨S96x96, .f32⟩
  | 111 => ⟨S96x64x64, .f32⟩
  | 112 => ⟨S96x64x64, .f32⟩
  | 113 => ⟨S96x64x64, .f32⟩
  | 114 => ⟨S96x96x1x1, .f32⟩
  | 115 => ⟨S96x96, .f32⟩
  | 116 => ⟨S96x64x64, .f32⟩
  | 117 => ⟨S96x64x64, .f32⟩
  | 118 => ⟨S96x64x64, .f32⟩
  | 119 => ⟨S96x96x1x1, .f32⟩
  | 120 => ⟨S96x96, .f32⟩
  | 121 => ⟨S96x64x64, .f32⟩
  | 122 => ⟨S96x64x64, .f32⟩
  | 123 => ⟨S96x64x64, .f32⟩
  | 124 => ⟨S96x96x1x1, .f32⟩
  | 125 => ⟨S96x96, .f32⟩
  | 126 => ⟨S96x64x64, .f32⟩
  | 127 => ⟨S96x64x64, .f32⟩
  | _ => ⟨S1x96x64x64, .f32⟩

abbrev hbmTy0_1 (i : Nat) : BufTy := match i % 128 with
  | 0 => ⟨S96x64x64, .f32⟩
  | 1 => ⟨S96x96x1x1, .f32⟩
  | 2 => ⟨S96x96, .f32⟩
  | 3 => ⟨S96x64x64, .f32⟩
  | 4 => ⟨S96x64x64, .f32⟩
  | 5 => ⟨S96x64x64, .f32⟩
  | 6 => ⟨S96x96x1x1, .f32⟩
  | 7 => ⟨S96x96, .f32⟩
  | 8 => ⟨S96x64x64, .f32⟩
  | 9 => ⟨S96x64x64, .f32⟩
  | 10 => ⟨S96x64x64, .f32⟩
  | 11 => ⟨S96x1x1, .f32⟩
  | 12 => ⟨S96x64x64, .f32⟩
  | 13 => ⟨S96x64x64, .f32⟩
  | 14 => ⟨S_, .f32⟩
  | 15 => ⟨S96x64x64, .f32⟩
  | 16 => ⟨S96x64x64, .f32⟩
  | 17 => ⟨S_, .f32⟩
  | 18 => ⟨S96x64x64, .f32⟩
  | 19 => ⟨S96x64x64, .f32⟩
  | 20 => ⟨S96x64x64, .f32⟩
  | 21 => ⟨S_, .f32⟩
  | 22 => ⟨S96x64x64, .f32⟩
  | 23 => ⟨S96x64x64, .f32⟩
  | 24 => ⟨S96x64x64, .f32⟩
  | 25 => ⟨S252x96, .f32⟩
  | 26 => ⟨S252x64x64, .f32⟩
  | 27 => ⟨S252x1x1, .f32⟩
  | 28 => ⟨S252x64x64, .f32⟩
  | 29 => ⟨S252x64x64, .f32⟩
  | 30 => ⟨S4x63x64x64, .f32⟩
  | 31 => ⟨S_, .f32⟩
  | 32 => ⟨S4x64x64, .f32⟩
  | 33 => ⟨S_, .f32⟩
  | 34 => ⟨S4x64x64, .f32⟩
  | 35 => ⟨S4x64x64, .f32⟩
  | 36 => ⟨S4x1x64x64, .f32⟩
  | 37 => ⟨S4x63x64x64, .f32⟩
  | 38 => ⟨S4x63x64x64, .f32⟩
  | 39 => ⟨S4x63x64x64, .f32⟩
  | 40 => ⟨S_, .f32⟩
  | 41 => ⟨S4x64x64, .f32⟩
  | 42 => ⟨S4x1x64x64, .f32⟩
  | 43 => ⟨S4x63x64x64, .f32⟩
  | 44 => ⟨S4x63x64x64, .f32⟩
  | 45 => ⟨S64x64, .i32⟩
  | 46 => ⟨S64x64, .f32⟩
  | 47 => ⟨S64x64, .i32⟩
  | 48 => ⟨S64x64, .f32⟩
  | 49 => ⟨S4x7x9x1x64x64, .f32⟩
  | 50 => ⟨S4x7x9x64x64, .f32⟩
  | 51 => ⟨S1x1x1x64x64, .f32⟩
  | 52 => ⟨S4x7x9x64x64, .f32⟩
  | 53 => ⟨S4x7x9x64x64, .f32⟩
  | 54 => ⟨S_, .f32⟩
  | 55 => ⟨S4x7x9x64x64, .f32⟩
  | 56 => ⟨S4x7x9x64x64, .f32⟩
  | 57 => ⟨S_, .f32⟩
  | 58 => ⟨S4x7x9x64x64, .f32⟩
  | 59 => ⟨S4x7x9x64x64, .f32⟩
  | 60 => ⟨S_, .f32⟩
  | 61 => ⟨S4x7x9x64x64, .f32⟩
  | 62 => ⟨S4x7x9x64x64, .f32⟩
  | 63 => ⟨S4x7x9x1x64x64, .f32⟩
  | 64 => ⟨S4x7x9x64x64, .f32⟩
  | 65 => ⟨S1x1x1x64x64, .f32⟩
  | 66 => ⟨S4x7x9x64x64, .f32⟩
  | 67 => ⟨S4x7x9x64x64, .f32⟩
  | 68 => ⟨S_, .f32⟩
  | 69 => ⟨S4x7x9x64x64, .f32⟩
  | 70 => ⟨S4x7x9x64x64, .f32⟩
  | 71 => ⟨S_, .f32⟩
  | 72 => ⟨S4x7x9x64x64, .f32⟩
  | 73 => ⟨S4x7x9x64x64, .f32⟩
  | 74 => ⟨S_, .f32⟩
  | 75 => ⟨S4x7x9x64x64, .f32⟩
  | 76 => ⟨S4x7x9x64x64, .f32⟩
  | 77 => ⟨S96x96, .f32⟩
  | 78 => ⟨S7x96x4096, .f32⟩
  | 79 => ⟨S96x7x4096, .f32⟩
  | 80 => ⟨S96x1x1, .f32⟩
  | 81 => ⟨S96x7x4096, .f32⟩
  | 82 => ⟨S96x7x4096, .f32⟩
  | 83 => ⟨S4x24x7x4096, .f32⟩
  | 84 => ⟨S4x7x24x4096, .f32⟩
  | 85 => ⟨S_, .f32⟩
  | 86 => ⟨S4x7x9x64x64, .f32⟩
  | 87 => ⟨S4x7x9x64x64, .f32⟩
  | 88 => ⟨S_, .f32⟩
  | 89 => ⟨S4x7x9x64x64, .f32⟩
  | 90 => ⟨S4x7x9x64x64, .f32⟩
  | 91 => ⟨S_, .f32⟩
  | 92 => ⟨S4x7x9x64x64, .f32⟩
  | 93 => ⟨S4x7x9x64x64, .f32⟩
  | 94 => ⟨S_, .f32⟩
  | 95 => ⟨S4x7x9x64x64, .f32⟩
  | 96 => ⟨S4x7x9x64x64, .f32⟩
  | 97 => ⟨S_, .f32⟩
  | 98 => ⟨S4x7x9x64x64, .f32⟩
  | 99 => ⟨S4x7x9x64x64, .f32⟩
  | 100 => ⟨S_, .f32⟩
  | 101 => ⟨S4x7x9x64x64, .f32⟩
  | 102 => ⟨S4x7x9x64x64, .f32⟩
  | 103 => ⟨S4x7x9x64x64, .f32⟩
  | 104 => ⟨S4x7x9x64x64, .f32⟩
  | 105 => ⟨S_, .f32⟩
  | 106 => ⟨S4x7x9x64x64, .f32⟩
  | 107 => ⟨S4x7x9x64x64, .f32⟩
  | 108 => ⟨S_, .f32⟩
  | 109 => ⟨S4x7x9x64x64, .f32⟩
  | 110 => ⟨S4x7x9x64x64, .f32⟩
  | 111 => ⟨S4x7x9x64x64, .f32⟩
  | 112 => ⟨S_, .f32⟩
  | 113 => ⟨S4x7x9x64x64, .f32⟩
  | 114 => ⟨S4x7x9x64x64, .f32⟩
  | 115 => ⟨S4x7x9x64x64, .f32⟩
  | 116 => ⟨S_, .f32⟩
  | 117 => ⟨S4x7x9x64x64, .f32⟩
  | 118 => ⟨S4x7x9x64x64, .f32⟩
  | 119 => ⟨S_, .f32⟩
  | 120 => ⟨S4x7x9x64x64, .f32⟩
  | 121 => ⟨S4x7x9x64x64, .i1⟩
  | 122 => ⟨S_, .f32⟩
  | 123 => ⟨S4x7x9x64x64, .f32⟩
  | 124 => ⟨S4x7x9x64x64, .i1⟩
  | 125 => ⟨S4x7x9x64x64, .i1⟩
  | 126 => ⟨S_, .f32⟩
  | 127 => ⟨S4x7x9x64x64, .f32⟩
  | _ => ⟨S1x96x64x64, .f32⟩

abbrev hbmTy0_2 (i : Nat) : BufTy := match i % 128 with
  | 0 => ⟨S4x7x9x64x64, .i1⟩
  | 1 => ⟨S4x7x9x64x64, .i1⟩
  | 2 => ⟨S_, .f32⟩
  | 3 => ⟨S4x7x9x64x64, .f32⟩
  | 4 => ⟨S4x7x9x64x64, .i1⟩
  | 5 => ⟨S4x7x9x64x64, .i1⟩
  | 6 => ⟨S4x7x9x64x64, .f32⟩
  | 7 => ⟨S_, .i32⟩
  | 8 => ⟨S_, .i32⟩
  | 9 => ⟨S_, .f32⟩
  | 10 => ⟨S4x7x9x64x64, .f32⟩
  | 11 => ⟨S4x7x9x64x64, .f32⟩
  | 12 => ⟨S_, .f32⟩
  | 13 => ⟨S4x7x9x64x64, .f32⟩
  | 14 => ⟨S4x7x9x64x64, .f32⟩
  | 15 => ⟨S4x7x9x64x64, .i32⟩
  | 16 => ⟨S_, .i32⟩
  | 17 => ⟨S_, .i32⟩
  | 18 => ⟨S_, .f32⟩
  | 19 => ⟨S4x7x9x64x64, .f32⟩
  | 20 => ⟨S4x7x9x64x64, .f32⟩
  | 21 => ⟨S_, .f32⟩
  | 22 => ⟨S4x7x9x64x64, .f32⟩
  | 23 => ⟨S4x7x9x64x64, .f32⟩
  | 24 => ⟨S4x7x9x64x64, .i32⟩
  | 25 => ⟨S_, .i32⟩
  | 26 => ⟨S4x7x9x64x64, .i32⟩
  | 27 => ⟨S4x7x9x64x64, .i32⟩
  | 28 => ⟨S4x7x9x64x64, .i32⟩
  | 29 => ⟨S_, .i32⟩
  | 30 => ⟨S4x7x9x64x64, .i32⟩
  | 31 => ⟨S4x7x9x64x64, .i1⟩
  | 32 => ⟨S_, .i32⟩
  | 33 => ⟨S4x7x9x64x64, .i32⟩
  | 34 => ⟨S4x7x9x64x64, .i32⟩
  | 35 => ⟨S4x7x9x64x64, .i32⟩
  | 36 => ⟨S4x7x9x64x64x1, .i32⟩
  | 37 => ⟨S4x7x24x9x64x64, .f32⟩
  | 38 => ⟨S4x7x1x9x64x64, .f32⟩
  | 39 => ⟨S4x7x24x9x64x64, .f32⟩
  | 40 => ⟨S4x7x24x9x64x64, .f32⟩
  | 41 => ⟨S4x7x9x64x64, .f32⟩
  | 42 => ⟨S4x7x1x9x64x64, .f32⟩
  | 43 => ⟨S4x7x24x9x64x64, .f32⟩
  | 44 => ⟨S4x7x24x9x64x64, .f32⟩
  | 45 => ⟨S_, .f32⟩
  | 46 => ⟨S4x7x9x64x64, .f32⟩
  | 47 => ⟨S4x7x9x64x64, .i1⟩
  | 48 => ⟨S_, .f32⟩
  | 49 => ⟨S4x7x9x64x64, .f32⟩
  | 50 => ⟨S4x7x9x64x64, .i1⟩
  | 51 => ⟨S4x7x9x64x64, .i1⟩
  | 52 => ⟨S_, .f32⟩
  | 53 => ⟨S4x7x9x64x64, .f32⟩
  | 54 => ⟨S4x7x9x64x64, .i1⟩
  | 55 => ⟨S4x7x9x64x64, .i1⟩
  | 56 => ⟨S_, .f32⟩
  | 57 => ⟨S4x7x9x64x64, .f32⟩
  | 58 => ⟨S4x7x9x64x64, .i1⟩
  | 59 => ⟨S4x7x9x64x64, .i1⟩
  | 60 => ⟨S4x7x9x64x64, .f32⟩
  | 61 => ⟨S_, .i32⟩
  | 62 => ⟨S_, .i32⟩
  | 63 => ⟨S_, .f32⟩
  | 64 => ⟨S4x7x9x64x64, .f32⟩
  | 65 => ⟨S4x7x9x64x64, .f32⟩
  | 66 => ⟨S_, .f32⟩
  | 67 => ⟨S4x7x9x64x64, .f32⟩
  | 68 => ⟨S4x7x9x64x64, .f32⟩
  | 69 => ⟨S4x7x9x64x64, .i32⟩
  | 70 => ⟨S_, .i32⟩
  | 71 => ⟨S_, .i32⟩
  | 72 => ⟨S_, .f32⟩
  | 73 => ⟨S4x7x9x64x64, .f32⟩
  | 74 => ⟨S4x7x9x64x64, .f32⟩
  | 75 => ⟨S_, .f32⟩
  | 76 => ⟨S4x7x9x64x64, .f32⟩
  | 77 => ⟨S4x7x9x64x64, .f32⟩
  | 78 => ⟨S4x7x9x64x64, .i32⟩
  | 79 => ⟨S_, .i32⟩
  | 80 => ⟨S4x7x9x64x64, .i32⟩
  | 81 => ⟨S4x7x9x64x64, .i32⟩
  | 82 => ⟨S4x7x9x64x64, .i32⟩
  | 83 => ⟨S_, .i32⟩
  | 84 => ⟨S4x7x9x64x64, .i32⟩
  | 85 => ⟨S4x7x9x64x64, .i1⟩
  | 86 => ⟨S_, .i32⟩
  | 87 => ⟨S4x7x9x64x64, .i32⟩
  | 88 => ⟨S4x7x9x64x64, .i32⟩
  | 89 => ⟨S4x7x9x64x64, .i32⟩
  | 90 => ⟨S4x7x9x64x64x1, .i32⟩
  | 91 => ⟨S4x7x24x9x64x64, .f32⟩
  | 92 => ⟨S4x7x1x9x64x64, .f32⟩
  | 93 => ⟨S4x7x24x9x64x64, .f32⟩
  | 94 => ⟨S4x7x24x9x64x64, .f32⟩
  | 95 => ⟨S4x7x9x64x64, .f32⟩
  | 96 => ⟨S4x7x1x9x64x64, .f32⟩
  | 97 => ⟨S4x7x24x9x64x64, .f32⟩
  | 98 => ⟨S4x7x24x9x64x64, .f32⟩
  | 99 => ⟨S4x7x24x9x64x64, .f32⟩
  | 100 => ⟨S_, .f32⟩
  | 101 => ⟨S4x7x9x64x64, .f32⟩
  | 102 => ⟨S4x7x9x64x64, .i1⟩
  | 103 => ⟨S_, .f32⟩
  | 104 => ⟨S4x7x9x64x64, .f32⟩
  | 105 => ⟨S4x7x9x64x64, .i1⟩
  | 106 => ⟨S4x7x9x64x64, .i1⟩
  | 107 => ⟨S_, .f32⟩
  | 108 => ⟨S4x7x9x64x64, .f32⟩
  | 109 => ⟨S4x7x9x64x64, .i1⟩
  | 110 => ⟨S4x7x9x64x64, .i1⟩
  | 111 => ⟨S_, .f32⟩
  | 112 => ⟨S4x7x9x64x64, .f32⟩
  | 113 => ⟨S4x7x9x64x64, .i1⟩
  | 114 => ⟨S4x7x9x64x64, .i1⟩
  | 115 => ⟨S4x7x9x64x64, .f32⟩
  | 116 => ⟨S_, .i32⟩
  | 117 => ⟨S_, .i32⟩
  | 118 => ⟨S_, .f32⟩
  | 119 => ⟨S4x7x9x64x64, .f32⟩
  | 120 => ⟨S4x7x9x64x64, .f32⟩
  | 121 => ⟨S_, .f32⟩
  | 122 => ⟨S4x7x9x64x64, .f32⟩
  | 123 => ⟨S4x7x9x64x64, .f32⟩
  | 124 => ⟨S4x7x9x64x64, .i32⟩
  | 125 => ⟨S_, .i32⟩
  | 126 => ⟨S_, .i32⟩
  | 127 => ⟨S_, .f32⟩
  | _ => ⟨S1x96x64x64, .f32⟩

abbrev hbmTy0_3 (i : Nat) : BufTy := match i % 128 with
  | 0 => ⟨S4x7x9x64x64, .f32⟩
  | 1 => ⟨S4x7x9x64x64, .f32⟩
  | 2 => ⟨S_, .f32⟩
  | 3 => ⟨S4x7x9x64x64, .f32⟩
  | 4 => ⟨S4x7x9x64x64, .f32⟩
  | 5 => ⟨S4x7x9x64x64, .i32⟩
  | 6 => ⟨S_, .i32⟩
  | 7 => ⟨S4x7x9x64x64, .i32⟩
  | 8 => ⟨S4x7x9x64x64, .i32⟩
  | 9 => ⟨S4x7x9x64x64, .i32⟩
  | 10 => ⟨S_, .i32⟩
  | 11 => ⟨S4x7x9x64x64, .i32⟩
  | 12 => ⟨S4x7x9x64x64, .i1⟩
  | 13 => ⟨S_, .i32⟩
  | 14 => ⟨S4x7x9x64x64, .i32⟩
  | 15 => ⟨S4x7x9x64x64, .i32⟩
  | 16 => ⟨S4x7x9x64x64, .i32⟩
  | 17 => ⟨S4x7x9x64x64x1, .i32⟩
  | 18 => ⟨S4x7x24x9x64x64, .f32⟩
  | 19 => ⟨S4x7x1x9x64x64, .f32⟩
  | 20 => ⟨S4x7x24x9x64x64, .f32⟩
  | 21 => ⟨S4x7x24x9x64x64, .f32⟩
  | 22 => ⟨S4x7x9x64x64, .f32⟩
  | 23 => ⟨S4x7x1x9x64x64, .f32⟩
  | 24 => ⟨S4x7x24x9x64x64, .f32⟩
  | 25 => ⟨S4x7x24x9x64x64, .f32⟩
  | 26 => ⟨S4x7x24x9x64x64, .f32⟩
  | 27 => ⟨S_, .f32⟩
  | 28 => ⟨S4x7x9x64x64, .f32⟩
  | 29 => ⟨S4x7x9x64x64, .i1⟩
  | 30 => ⟨S_, .f32⟩
  | 31 => ⟨S4x7x9x64x64, .f32⟩
  | 32 => ⟨S4x7x9x64x64, .i1⟩
  | 33 => ⟨S4x7x9x64x64, .i1⟩
  | 34 => ⟨S_, .f32⟩
  | 35 => ⟨S4x7x9x64x64, .f32⟩
  | 36 => ⟨S4x7x9x64x64, .i1⟩
  | 37 => ⟨S4x7x9x64x64, .i1⟩
  | 38 => ⟨S_, .f32⟩
  | 39 => ⟨S4x7x9x64x64, .f32⟩
  | 40 => ⟨S4x7x9x64x64, .i1⟩
  | 41 => ⟨S4x7x9x64x64, .i1⟩
  | 42 => ⟨S4x7x9x64x64, .f32⟩
  | 43 => ⟨S_, .i32⟩
  | 44 => ⟨S_, .i32⟩
  | 45 => ⟨S_, .f32⟩
  | 46 => ⟨S4x7x9x64x64, .f32⟩
  | 47 => ⟨S4x7x9x64x64, .f32⟩
  | 48 => ⟨S_, .f32⟩
  | 49 => ⟨S4x7x9x64x64, .f32⟩
  | 50 => ⟨S4x7x9x64x64, .f32⟩
  | 51 => ⟨S4x7x9x64x64, .i32⟩
  | 52 => ⟨S_, .i32⟩
  | 53 => ⟨S_, .i32⟩
  | 54 => ⟨S_, .f32⟩
  | 55 => ⟨S4x7x9x64x64, .f32⟩
  | 56 => ⟨S4x7x9x64x64, .f32⟩
  | 57 => ⟨S_, .f32⟩
  | 58 => ⟨S4x7x9x64x64, .f32⟩
  | 59 => ⟨S4x7x9x64x64, .f32⟩
  | 60 => ⟨S4x7x9x64x64, .i32⟩
  | 61 => ⟨S_, .i32⟩
  | 62 => ⟨S4x7x9x64x64, .i32⟩
  | 63 => ⟨S4x7x9x64x64, .i32⟩
  | 64 => ⟨S4x7x9x64x64, .i32⟩
  | 65 => ⟨S_, .i32⟩
  | 66 => ⟨S4x7x9x64x64, .i32⟩
  | 67 => ⟨S4x7x9x64x64, .i1⟩
  | 68 => ⟨S_, .i32⟩
  | 69 => ⟨S4x7x9x64x64, .i32⟩
  | 70 => ⟨S4x7x9x64x64, .i32⟩
  | 71 => ⟨S4x7x9x64x64, .i32⟩
  | 72 => ⟨S4x7x9x64x64x1, .i32⟩
  | 73 => ⟨S4x7x24x9x64x64, .f32⟩
  | 74 => ⟨S4x7x1x9x64x64, .f32⟩
  | 75 => ⟨S4x7x24x9x64x64, .f32⟩
  | 76 => ⟨S4x7x24x9x64x64, .f32⟩
  | 77 => ⟨S4x7x9x64x64, .f32⟩
  | 78 => ⟨S4x7x1x9x64x64, .f32⟩
  | 79 => ⟨S4x7x24x9x64x64, .f32⟩
  | 80 => ⟨S4x7x24x9x64x64, .f32⟩
  | 81 => ⟨S4x7x24x9x64x64, .f32⟩
  | 82 => ⟨S4x7x9x24x64x64, .f32⟩
  | 83 => ⟨S4x63x24x64x64, .f32⟩
  | 84 => ⟨S4x63x1x64x64, .f32⟩
  | 85 => ⟨S4x63x24x64x64, .f32⟩
  | 86 => ⟨S4x63x24x64x64, .f32⟩
  | 87 => ⟨S_, .f32⟩
  | 88 => ⟨S4x24x64x64, .f32⟩
  | 89 => ⟨S96x64x64, .f32⟩
  | 90 => ⟨S96x96, .f32⟩
  | 91 => ⟨S96x64x64, .f32⟩
  | 92 => ⟨S96x1x1, .f32⟩
  | 93 => ⟨S96x64x64, .f32⟩
  | 94 => ⟨S96x64x64, .f32⟩
  | 95 => ⟨S96x64x64, .f32⟩
  | 96 => ⟨S1x96x64x64, .f32⟩
  | _ => ⟨S1x96x64x64, .f32⟩

abbrev hbmTy (i : Nat) : BufTy := match i / 128 with
  | 0 => hbmTy0_0 i
  | 1 => hbmTy0_1 i
  | 2 => hbmTy0_2 i
  | 3 => hbmTy0_3 i
  | _ => ⟨S1x96x64x64, .f32⟩

abbrev bufTy : (tb : Table) → Fin (tcTables nBuf tb) → BufTy
  | .hbm, ⟨i, _⟩ => hbmTy i
  | _, _ => ⟨S1x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_0 : Ref sig .tc := ⟨.hbm, 68, rfl⟩
abbrev main_v51 : Ref sig .tc := ⟨.hbm, 69, rfl⟩
abbrev main_v52 : Ref sig .tc := ⟨.hbm, 70, rfl⟩
abbrev main_cst_1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_2 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_3 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_4 : Ref sig .tc := ⟨.hbm, 89, rfl⟩
abbrev main_call1_v0 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_6 : Ref sig .tc := ⟨.hbm, 142, rfl⟩
abbrev main_v118 : Ref sig .tc := ⟨.hbm, 143, rfl⟩
abbrev main_v119 : Ref sig .tc := ⟨.hbm, 144, rfl⟩
abbrev main_cst_7 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_8 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_9 : Ref sig .tc := ⟨.hbm, 159, rfl⟩
abbrev main_v132 : Ref sig .tc := ⟨.hbm, 160, rfl⟩
abbrev main_cst_10 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_11 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_12 : Ref sig .tc := ⟨.hbm, 182, rfl⟩
abbrev main_v152 : Ref sig .tc := ⟨.hbm, 183, rfl⟩
abbrev main_v153 : Ref sig .tc := ⟨.hbm, 184, rfl⟩
abbrev main_cst_13 : Ref sig .tc := ⟨.hbm, 185, rfl⟩
abbrev main_v154 : Ref sig .tc := ⟨.hbm, 186, rfl⟩
abbrev main_v155 : Ref sig .tc := ⟨.hbm, 187, rfl⟩
abbrev main_cst_14 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_15 : Ref sig .tc := ⟨.hbm, 196, rfl⟩
abbrev main_v163 : Ref sig .tc := ⟨.hbm, 197, rfl⟩
abbrev main_v164 : Ref sig .tc := ⟨.hbm, 198, rfl⟩
abbrev main_cst_16 : Ref sig .tc := ⟨.hbm, 199, rfl⟩
abbrev main_v165 : Ref sig .tc := ⟨.hbm, 200, rfl⟩
abbrev main_v166 : Ref sig .tc := ⟨.hbm, 201, rfl⟩
abbrev main_cst_17 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_18 : Ref sig .tc := ⟨.hbm, 213, rfl⟩
abbrev main_v177 : Ref sig .tc := ⟨.hbm, 214, rfl⟩
abbrev main_v178 : Ref sig .tc := ⟨.hbm, 215, rfl⟩
abbrev main_cst_19 : Ref sig .tc := ⟨.hbm, 216, rfl⟩
abbrev main_v179 : Ref sig .tc := ⟨.hbm, 217, rfl⟩
abbrev main_v180 : Ref sig .tc := ⟨.hbm, 218, rfl⟩
abbrev main_cst_20 : Ref sig .tc := ⟨.hbm, 219, rfl⟩
abbrev main_v181 : Ref sig .tc := ⟨.hbm, 220, rfl⟩
abbrev main_v182 : Ref sig .tc := ⟨.hbm, 221, rfl⟩
abbrev main_cst_21 : Ref sig .tc := ⟨.hbm, 222, rfl⟩
abbrev main_v183 : Ref sig .tc := ⟨.hbm, 223, rfl⟩
abbrev main_v184 : Ref sig .tc := ⟨.hbm, 224, rfl⟩
abbrev main_cst_22 : Ref sig .tc := ⟨.hbm, 225, rfl⟩
abbrev main_v185 : Ref sig .tc := ⟨.hbm, 226, rfl⟩
abbrev main_v186 : Ref sig .tc := ⟨.hbm, 227, rfl⟩
abbrev main_cst_23 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_24 : Ref sig .tc := ⟨.hbm, 233, rfl⟩
abbrev main_v191 : Ref sig .tc := ⟨.hbm, 234, rfl⟩
abbrev main_v192 : Ref sig .tc := ⟨.hbm, 235, rfl⟩
abbrev main_cst_25 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_cst_26 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_27 : Ref sig .tc := ⟨.hbm, 244, rfl⟩
abbrev main_v199 : Ref sig .tc := ⟨.hbm, 245, rfl⟩
abbrev main_v200 : Ref sig .tc := ⟨.hbm, 246, rfl⟩
abbrev main_cst_28 : Ref sig .tc := ⟨.hbm, 247, rfl⟩
abbrev main_v201 : Ref sig .tc := ⟨.hbm, 248, rfl⟩
abbrev main_v202 : Ref sig .tc := ⟨.hbm, 249, rfl⟩
abbrev main_cst_29 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_30 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_cst_31 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_c_32 : Ref sig .tc := ⟨.hbm, 263, rfl⟩
abbrev main_c_33 : Ref sig .tc := ⟨.hbm, 264, rfl⟩
abbrev main_call2_v0 : Ref sig .tc := ⟨.hbm, 265, rfl⟩
abbrev main_call2_v1 : Ref sig .tc := ⟨.hbm, 266, rfl⟩
abbrev main_call2_v2 : Ref sig .tc := ⟨.hbm, 267, rfl⟩
abbrev main_call2_v3 : Ref sig .tc := ⟨.hbm, 268, rfl⟩
abbrev main_call2_v4 : Ref sig .tc := ⟨.hbm, 269, rfl⟩
abbrev main_v213 : Ref sig .tc := ⟨.hbm, 270, rfl⟩
abbrev main_v214 : Ref sig .tc := ⟨.hbm, 271, rfl⟩
abbrev main_c_34 : Ref sig .tc := ⟨.hbm, 272, rfl⟩
abbrev main_c_35 : Ref sig .tc := ⟨.hbm, 273, rfl⟩
abbrev main_call3_v0 : Ref sig .tc := ⟨.hbm, 274, rfl⟩
abbrev main_call3_v1 : Ref sig .tc := ⟨.hbm, 275, rfl⟩
abbrev main_call3_v2 : Ref sig .tc := ⟨.hbm, 276, rfl⟩
abbrev main_call3_v3 : Ref sig .tc := ⟨.hbm, 277, rfl⟩
abbrev main_call3_v4 : Ref sig .tc := ⟨.hbm, 278, rfl⟩
abbrev main_v215 : Ref sig .tc := ⟨.hbm, 279, rfl⟩
abbrev main_v216 : Ref sig .tc := ⟨.hbm, 280, rfl⟩
abbrev main_c_36 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_c_37 : Ref sig .tc := ⟨.hbm, 285, rfl⟩
abbrev main_v220 : Ref sig .tc := ⟨.hbm, 286, rfl⟩
abbrev main_v221 : Ref sig .tc := ⟨.hbm, 287, rfl⟩
abbrev main_c_38 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_cst_39 : Ref sig .tc := ⟨.hbm, 301, rfl⟩
abbrev main_v234 : Ref sig .tc := ⟨.hbm, 302, rfl⟩
abbrev main_v235 : Ref sig .tc := ⟨.hbm, 303, rfl⟩
abbrev main_cst_40 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_cst_41 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_cst_42 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_c_43 : Ref sig .tc := ⟨.hbm, 317, rfl⟩
abbrev main_c_44 : Ref sig .tc := ⟨.hbm, 318, rfl⟩
abbrev main_call4_v0 : Ref sig .tc := ⟨.hbm, 319, rfl⟩
abbrev main_call4_v1 : Ref sig .tc := ⟨.hbm, 320, rfl⟩
abbrev main_call4_v2 : Ref sig .tc := ⟨.hbm, 321, rfl⟩
abbrev main_call4_v3 : Ref sig .tc := ⟨.hbm, 322, rfl⟩
abbrev main_call4_v4 : Ref sig .tc := ⟨.hbm, 323, rfl⟩
abbrev main_v246 : Ref sig .tc := ⟨.hbm, 324, rfl⟩
abbrev main_v247 : Ref sig .tc := ⟨.hbm, 325, rfl⟩
abbrev main_c_45 : Ref sig .tc := ⟨.hbm, 326, rfl⟩
abbrev main_c_46 : Ref sig .tc := ⟨.hbm, 327, rfl⟩
abbrev main_call5_v0 : Ref sig .tc := ⟨.hbm, 328, rfl⟩
abbrev main_call5_v1 : Ref sig .tc := ⟨.hbm, 329, rfl⟩
abbrev main_call5_v2 : Ref sig .tc := ⟨.hbm, 330, rfl⟩
abbrev main_call5_v3 : Ref sig .tc := ⟨.hbm, 331, rfl⟩
abbrev main_call5_v4 : Ref sig .tc := ⟨.hbm, 332, rfl⟩
abbrev main_v248 : Ref sig .tc := ⟨.hbm, 333, rfl⟩
abbrev main_v249 : Ref sig .tc := ⟨.hbm, 334, rfl⟩
abbrev main_c_47 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_c_48 : Ref sig .tc := ⟨.hbm, 339, rfl⟩
abbrev main_v253 : Ref sig .tc := ⟨.hbm, 340, rfl⟩
abbrev main_v254 : Ref sig .tc := ⟨.hbm, 341, rfl⟩
abbrev main_c_49 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_cst_50 : Ref sig .tc := ⟨.hbm, 356, rfl⟩
abbrev main_v268 : Ref sig .tc := ⟨.hbm, 357, rfl⟩
abbrev main_v269 : Ref sig .tc := ⟨.hbm, 358, rfl⟩
abbrev main_cst_51 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_cst_52 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_cst_53 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_c_54 : Ref sig .tc := ⟨.hbm, 372, rfl⟩
abbrev main_c_55 : Ref sig .tc := ⟨.hbm, 373, rfl⟩
abbrev main_call6_v0 : Ref sig .tc := ⟨.hbm, 374, rfl⟩
abbrev main_call6_v1 : Ref sig .tc := ⟨.hbm, 375, rfl⟩
abbrev main_call6_v2 : Ref sig .tc := ⟨.hbm, 376, rfl⟩
abbrev main_call6_v3 : Ref sig .tc := ⟨.hbm, 377, rfl⟩
abbrev main_call6_v4 : Ref sig .tc := ⟨.hbm, 378, rfl⟩
abbrev main_v280 : Ref sig .tc := ⟨.hbm, 379, rfl⟩
abbrev main_v281 : Ref sig .tc := ⟨.hbm, 380, rfl⟩
abbrev main_c_56 : Ref sig .tc := ⟨.hbm, 381, rfl⟩
abbrev main_c_57 : Ref sig .tc := ⟨.hbm, 382, rfl⟩
abbrev main_call7_v0 : Ref sig .tc := ⟨.hbm, 383, rfl⟩
abbrev main_call7_v1 : Ref sig .tc := ⟨.hbm, 384, rfl⟩
abbrev main_call7_v2 : Ref sig .tc := ⟨.hbm, 385, rfl⟩
abbrev main_call7_v3 : Ref sig .tc := ⟨.hbm, 386, rfl⟩
abbrev main_call7_v4 : Ref sig .tc := ⟨.hbm, 387, rfl⟩
abbrev main_v282 : Ref sig .tc := ⟨.hbm, 388, rfl⟩
abbrev main_v283 : Ref sig .tc := ⟨.hbm, 389, rfl⟩
abbrev main_c_58 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_c_59 : Ref sig .tc := ⟨.hbm, 394, rfl⟩
abbrev main_v287 : Ref sig .tc := ⟨.hbm, 395, rfl⟩
abbrev main_v288 : Ref sig .tc := ⟨.hbm, 396, rfl⟩
abbrev main_c_60 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_v294 : Ref sig .tc := ⟨.hbm, 403, rfl⟩
abbrev main_v295 : Ref sig .tc := ⟨.hbm, 404, rfl⟩
abbrev main_v296 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_cst_61 : Ref sig .tc := ⟨.hbm, 411, rfl⟩
abbrev main_v302 : Ref sig .tc := ⟨.hbm, 412, rfl⟩
abbrev main_v303 : Ref sig .tc := ⟨.hbm, 413, rfl⟩
abbrev main_cst_62 : Ref sig .tc := ⟨.hbm, 414, rfl⟩
abbrev main_v304 : Ref sig .tc := ⟨.hbm, 415, rfl⟩
abbrev main_v305 : Ref sig .tc := ⟨.hbm, 416, rfl⟩
abbrev main_v306 : Ref sig .tc := ⟨.hbm, 417, rfl⟩
abbrev main_cst_63 : Ref sig .tc := ⟨.hbm, 418, rfl⟩
abbrev main_v307 : Ref sig .tc := ⟨.hbm, 419, rfl⟩
abbrev main_v308 : Ref sig .tc := ⟨.hbm, 420, rfl⟩
abbrev main_v309 : Ref sig .tc := ⟨.hbm, 421, rfl⟩
abbrev main_cst_64 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_v313 : Ref sig .tc := ⟨.hbm, 426, rfl⟩
abbrev main_c_65 : Ref sig .tc := ⟨.hbm, 427, rfl⟩
abbrev main_c_66 : Ref sig .tc := ⟨.hbm, 428, rfl⟩
abbrev main_call8_v0 : Ref sig .tc := ⟨.hbm, 429, rfl⟩
abbrev main_call8_v1 : Ref sig .tc := ⟨.hbm, 430, rfl⟩
abbrev main_call8_v2 : Ref sig .tc := ⟨.hbm, 431, rfl⟩
abbrev main_call8_v3 : Ref sig .tc := ⟨.hbm, 432, rfl⟩
abbrev main_call8_v4 : Ref sig .tc := ⟨.hbm, 433, rfl⟩
abbrev main_v314 : Ref sig .tc := ⟨.hbm, 434, rfl⟩
abbrev main_v315 : Ref sig .tc := ⟨.hbm, 435, rfl⟩
abbrev main_c_67 : Ref sig .tc := ⟨.hbm, 436, rfl⟩
abbrev main_c_68 : Ref sig .tc := ⟨.hbm, 437, rfl⟩
abbrev main_call9_v0 : Ref sig .tc := ⟨.hbm, 438, rfl⟩
abbrev main_call9_v1 : Ref sig .tc := ⟨.hbm, 439, rfl⟩
abbrev main_call9_v2 : Ref sig .tc := ⟨.hbm, 440, rfl⟩
abbrev main_call9_v3 : Ref sig .tc := ⟨.hbm, 441, rfl⟩
abbrev main_call9_v4 : Ref sig .tc := ⟨.hbm, 442, rfl⟩
abbrev main_v316 : Ref sig .tc := ⟨.hbm, 443, rfl⟩
abbrev main_v317 : Ref sig .tc := ⟨.hbm, 444, rfl⟩
abbrev main_c_69 : Ref sig .tc := ⟨.hbm, 445, rfl⟩
abbrev main_v318 : Ref sig .tc := ⟨.hbm, 446, rfl⟩
abbrev main_v319 : Ref sig .tc := ⟨.hbm, 447, rfl⟩
abbrev main_v320 : Ref sig .tc := ⟨.hbm, 448, rfl⟩
abbrev main_c_70 : Ref sig .tc := ⟨.hbm, 449, rfl⟩
abbrev main_v321 : Ref sig .tc := ⟨.hbm, 450, rfl⟩
abbrev main_v322 : Ref sig .tc := ⟨.hbm, 451, rfl⟩
abbrev main_c_71 : Ref sig .tc := ⟨.hbm, 452, rfl⟩
abbrev main_v323 : Ref sig .tc := ⟨.hbm, 453, rfl⟩
abbrev main_v324 : Ref sig .tc := ⟨.hbm, 454, rfl⟩
abbrev main_v325 : Ref sig .tc := ⟨.hbm, 455, rfl⟩
abbrev main_v326 : Ref sig .tc := ⟨.hbm, 456, rfl⟩
abbrev main_v327 : Ref sig .tc := ⟨.hbm, 457, rfl⟩
abbrev main_v328 : Ref sig .tc := ⟨.hbm, 458, rfl⟩
abbrev main_v329 : Ref sig .tc := ⟨.hbm, 459, rfl⟩
abbrev main_v330 : Ref sig .tc := ⟨.hbm, 460, rfl⟩
abbrev main_v331 : Ref sig .tc := ⟨.hbm, 461, rfl⟩
abbrev main_v332 : Ref sig .tc := ⟨.hbm, 462, rfl⟩
abbrev main_v333 : Ref sig .tc := ⟨.hbm, 463, rfl⟩
abbrev main_v334 : Ref sig .tc := ⟨.hbm, 464, rfl⟩
abbrev main_v335 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_v339 : Ref sig .tc := ⟨.hbm, 469, rfl⟩
abbrev main_v340 : Ref sig .tc := ⟨.hbm, 470, rfl⟩
abbrev main_cst_72 : Ref sig .tc := ⟨.hbm, 471, rfl⟩
abbrev main_v341 : Ref sig .tc := ⟨.hbm, 472, rfl⟩
abbrev main_v342 : Ref sig .tc := ⟨.hbm, 473, rfl⟩
abbrev main_v343 : Ref sig .tc := ⟨.hbm, 474, rfl⟩
abbrev main_v344 : Ref sig .tc := ⟨.hbm, 475, rfl⟩
abbrev main_v345 : Ref sig .tc := ⟨.hbm, 476, rfl⟩
abbrev main_v346 : Ref sig .tc := ⟨.hbm, 477, rfl⟩
abbrev main_v347 : Ref sig .tc := ⟨.hbm, 478, rfl⟩
abbrev main_v348 : Ref sig .tc := ⟨.hbm, 479, rfl⟩
abbrev main_v349 : Ref sig .tc := ⟨.hbm, 480, rfl⟩

abbrev nD : Nat := 1
abbrev τ : Topo := Topo.v7x

variable {F : FTy → Type} [FloatOps F]
-- ==== Proof.Spec.lean ====
/- The mathematics both programs compute, over extended reals, as functions of plain coordinates: the two 3 x 3
   convolutions, the 1 x 1 products, the softmax weights, the bilinear samples and their weighted sum. -/
module

public import Idealize.ShloMosaic.Lib.Pointwise

@[expose] public section

noncomputable section

namespace Cert.Spec

open Idealize.ShloMosaic

/-- An extended real that is a real number. -/
def IsR (e : EReal) : Prop := ∃ r : ℝ, e = (r : EReal)

/-- The entry of a row at an integer position, zero off the row. -/
def pick (G : Fin 64 → EReal) (n : ℤ) : EReal :=
  if h : 0 ≤ n ∧ n < 64 then G ⟨n.toNat, by omega⟩ else 0

/-- The entry of an image at an integer row and column, zero off the image. -/
def pick2 (img : Fin 64 → Fin 64 → EReal) (y x : ℤ) : EReal := pick (fun r => pick (img r) x) y

/-- The bilinear sample of an image at the column `sx` and the row `sy`, zero off the image. -/
def bil (img : Fin 64 → Fin 64 → EReal) (sx sy : ℝ) : EReal :=
  pick2 img ⌊sy⌋ ⌊sx⌋ * (((1 - (sy - ⌊sy⌋)) * (1 - (sx - ⌊sx⌋)) : ℝ) : EReal)
    + pick2 img ⌊sy⌋ (⌊sx⌋ + 1) * (((1 - (sy - ⌊sy⌋)) * (sx - ⌊sx⌋) : ℝ) : EReal)
    + pick2 img (⌊sy⌋ + 1) ⌊sx⌋ * (((sy - ⌊sy⌋) * (1 - (sx - ⌊sx⌋)) : ℝ) : EReal)
    + pick2 img (⌊sy⌋ + 1) (⌊sx⌋ + 1) * (((sy - ⌊sy⌋) * (sx - ⌊sx⌋) : ℝ) : EReal)

/-- The query padded by one zero on each side of both image axes. -/
def qp (Q : Fin 96 → Fin 64 → Fin 64 → EReal) (c : Fin 96) (i j : Fin 66) : EReal :=
  if h : (1 ≤ i.val ∧ i.val - 1 < 64) ∧ 1 ≤ j.val ∧ j.val - 1 < 64 then
    Q c ⟨i.val - 1, by omega⟩ ⟨j.val - 1, by omega⟩ else 0

/-- One tap of a 3 x 3 convolution: the products of the channels at the offset `(dy, dx)`. -/
def convTap (Q : Fin 96 → Fin 64 → Fin 64 → EReal) (W : Fin 96 → Fin 96 → Fin 3 → Fin 3 → EReal)
    (dy dx : Fin 3) (o : Fin 96) (y x : Fin 64) : EReal :=
  ∑ c : Fin 96, W o c dy dx * qp Q c ⟨dy.val + y.val, by omega⟩ ⟨dx.val + x.val, by omega⟩

/-- The 3 x 3 convolution with its bias: the nine taps in order, then the bias. -/
def conv (Q : Fin 96 → Fin 64 → Fin 64 → EReal) (W : Fin 96 → Fin 96 → Fin 3 → Fin 3 → EReal) (B : Fin 96 → EReal)
    (o : Fin 96) (y x : Fin 64) : EReal :=
  (convTap Q W 0 0 o y x + convTap Q W 0 1 o y x + convTap Q W 0 2 o y x
    + convTap Q W 1 0 o y x + convTap Q W 1 1 o y x + convTap Q W 1 2 o y x
    + convTap Q W 2 0 o y x + convTap Q W 2 1 o y x + convTap Q W 2 2 o y x) + B o

/-- The gelu: half of `x` times one plus the error function of `x` by the square root of a half. -/
def gelu (x : EReal) : EReal :=
  Ideal.ofBits .f32 0x3F000000#32 * x * (1 + Ideal.erf (x * Ideal.ofBits .f32 0x3F3504F3#32))

/-- A 1 x 1 product of the gelu of a convolution. -/
def logit {n : ℕ} (Q : Fin 96 → Fin 64 → Fin 64 → EReal) (W : Fin 96 → Fin 96 → Fin 3 → Fin 3 → EReal)
    (B : Fin 96 → EReal) (W2 : Fin n → Fin 96 → EReal) (B2 : Fin n → EReal) (o : Fin n) (y x : Fin 64) : EReal :=
  (∑ c : Fin 96, W2 o c * gelu (conv Q W B c y x)) + B2 o

/-- A sampling offset: the hyperbolic tangent of its logit, times 32. -/
def off (Q : Fin 96 → Fin 64 → Fin 64 → EReal) (W : Fin 96 → Fin 96 → Fin 3 → Fin 3 → EReal)
    (B : Fin 96 → EReal) (W2 : Fin 504 → Fin 96 → EReal) (B2 : Fin 504 → EReal) (o : Fin 504) (y x : Fin 64) : EReal :=
  Ideal.tanh (logit Q W B W2 B2 o y x) * Ideal.ofBits .f32 0x42000000#32

/-- The softmax of 63 logits. -/
def soft (l : Fin 63 → EReal) (j : Fin 63) : EReal :=
  Ideal.div (Ideal.exp (l j - Finset.univ.fold max ⊥ l)) (∑ k : Fin 63, Ideal.exp (l k - Finset.univ.fold max ⊥ l))

/-- The attention weight of sample `j` of a head. -/
def attn (Q : Fin 96 → Fin 64 → Fin 64 → EReal) (W : Fin 96 → Fin 96 → Fin 3 → Fin 3 → EReal)
    (B : Fin 96 → EReal) (W2 : Fin 252 → Fin 96 → EReal) (B2 : Fin 252 → EReal) (h : Fin 4) (j : Fin 63)
    (y x : Fin 64) : EReal :=
  soft (fun k => logit Q W B W2 B2 ⟨h.val * 63 + k.val, by omega⟩ y x) j

/-- A value channel of a frame's context. -/
def vproj (X : Fin 7 → Fin 96 → Fin 64 → Fin 64 → EReal) (W : Fin 96 → Fin 96 → EReal) (B : Fin 96 → EReal)
    (t : Fin 7) (o : Fin 96) (y x : Fin 64) : EReal :=
  (∑ c : Fin 96, W o c * X t c y x) + B o

/-- The attended value of a channel of a head at a point, given the offsets, the weights and the values. -/
def deform (O : Fin 504 → EReal) (A : Fin 4 → Fin 63 → EReal) (V : Fin 7 → Fin 96 → Fin 64 → Fin 64 → EReal)
    (h : Fin 4) (d : Fin 24) (y x : Fin 64) : EReal :=
  ∑ t : Fin 7, ∑ k : Fin 9,
    bil (V t ⟨h.val * 24 + d.val, by omega⟩)
      ((x.val : ℝ) + (O ⟨((h.val * 7 + t.val) * 9 + k.val) * 2, by omega⟩).toReal)
      ((y.val : ℝ) + (O ⟨((h.val * 7 + t.val) * 9 + k.val) * 2 + 1, by omega⟩).toReal)
    * A h ⟨t.val * 9 + k.val, by omega⟩

/-- The result: the query plus the product of the attended values with the output weights. -/
def result (Q : Fin 96 → Fin 64 → Fin 64 → EReal) (D : Fin 4 → Fin 24 → EReal) (W : Fin 96 → Fin 96 → EReal)
    (B : Fin 96 → EReal) (o : Fin 96) (y x : Fin 64) : EReal :=
  Q o y x + ((∑ c : Fin 96, W o c * D ⟨c.val / 24, by omega⟩ ⟨c.val % 24, by omega⟩) + B o)

/-! ## Sums and products with finite weights -/

/-- A nonnegative real factor on the right distributes over a finite sum. -/
theorem sum_mul_coe {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

/-- The pair of weights a coordinate gives to position `x`: `u` at `n`, `w` at `n + 1`, zero elsewhere. -/
def wt (n : ℤ) (u w : EReal) (x : Fin 64) : EReal :=
  (if (x.val : ℤ) = n then u else 0) + (if (x.val : ℤ) = n + 1 then w else 0)

/-- A row summed against a single weight is the row's entry there. -/
theorem sum_single (G : Fin 64 → EReal) (n : ℤ) (u : EReal) :
    ∑ x : Fin 64, G x * (if (x.val : ℤ) = n then u else 0) = pick G n * u := by
  unfold pick
  by_cases h : 0 ≤ n ∧ n < 64
  · rw [dif_pos h, Finset.sum_eq_single (⟨n.toNat, by omega⟩ : Fin 64)]
    · rw [if_pos (by simp; omega)]
    · intro b _ hb
      rw [if_neg, mul_zero]
      intro hn
      exact hb (Fin.ext (by simp; omega))
    · intro hn; exact absurd (Finset.mem_univ _) hn
  · rw [dif_neg h, zero_mul]
    refine Finset.sum_eq_zero fun x _ => ?_
    rw [if_neg (by omega), mul_zero]

/-- A row summed against the pair of weights is its two entries, weighted. -/
theorem sum_wt (G : Fin 64 → EReal) (n : ℤ) (u w : ℝ) (hu : 0 ≤ u) (hw : 0 ≤ w) :
    ∑ x : Fin 64, G x * wt n u w x = pick G n * (u : EReal) + pick G (n + 1) * (w : EReal) := by
  rw [← sum_single, ← sum_single, ← Finset.sum_add_distrib]
  refine Finset.sum_congr rfl fun x _ => ?_
  have hu' : (0 : EReal) ≤ u := by exact_mod_cast hu
  have hw' : (0 : EReal) ≤ w := by exact_mod_cast hw
  unfold wt
  exact EReal.left_distrib_of_nonneg (by split_ifs <;> first | exact hu' | exact le_rfl)
    (by split_ifs <;> first | exact hw' | exact le_rfl)

/-- An entry of a row of weighted sums of two rows. -/
theorem pick_add_mul (G H : Fin 64 → EReal) (a b : EReal) (n : ℤ) :
    pick (fun x => G x * a + H x * b) n = pick G n * a + pick H n * b := by
  unfold pick; split_ifs <;> simp

/-- An entry of a scaled row. -/
theorem pick_mul (G : Fin 64 → EReal) (a : EReal) (n : ℤ) : pick (fun x => G x * a) n = pick G n * a := by
  unfold pick; split_ifs <;> simp

/-- Row and column may be looked up in either order. -/
theorem pick_swap (img : Fin 64 → Fin 64 → EReal) (y x : ℤ) :
    pick (fun c => pick (fun r => img r c) y) x = pick2 img y x := by
  unfold pick2 pick; split_ifs <;> rfl

/-- The weights of a coordinate's two neighbours are nonnegative. -/
theorem frac_nonneg (s : ℝ) : 0 ≤ s - ⌊s⌋ := sub_nonneg.mpr (Int.floor_le s)

/-- The lower neighbour's weight is nonnegative. -/
theorem one_sub_frac_nonneg (s : ℝ) : 0 ≤ 1 - (s - ⌊s⌋) := by
  have := Int.lt_floor_add_one s; linarith

/-- The image summed against the row weights (times a factor `a`) and then the column weights is the bilinear sample
    times `a`. -/
theorem tap_eq (img : Fin 64 → Fin 64 → EReal) (a sx sy : ℝ) (ha : 0 ≤ a) :
    ∑ x : Fin 64, (∑ y : Fin 64, ((a : EReal) * wt ⌊sy⌋ ((1 - (sy - ⌊sy⌋) : ℝ) : EReal) ((sy - ⌊sy⌋ : ℝ) : EReal) y)
        * img y x) * wt ⌊sx⌋ ((1 - (sx - ⌊sx⌋) : ℝ) : EReal) ((sx - ⌊sx⌋ : ℝ) : EReal) x
      = bil img sx sy * (a : EReal) := by
  have hy0 := one_sub_frac_nonneg sy
  have hy1 := frac_nonneg sy
  have hx0 := one_sub_frac_nonneg sx
  have hx1 := frac_nonneg sx
  have hrow : ∀ x : Fin 64, (∑ y : Fin 64, ((a : EReal) * wt ⌊sy⌋ ((1 - (sy - ⌊sy⌋) : ℝ) : EReal)
      ((sy - ⌊sy⌋ : ℝ) : EReal) y) * img y x)
      = (pick (fun y => img y x) ⌊sy⌋ * ((1 - (sy - ⌊sy⌋) : ℝ) : EReal)
        + pick (fun y => img y x) (⌊sy⌋ + 1) * ((sy - ⌊sy⌋ : ℝ) : EReal)) * (a : EReal) := by
    intro x
    rw [← sum_wt (fun y => img y x) _ _ _ hy0 hy1, sum_mul_coe _ _ _ ha]
    exact Finset.sum_congr rfl fun y _ => by ac_rfl
  simp only [hrow]
  rw [sum_wt _ _ _ _ hx0 hx1, pick_mul, pick_mul, pick_add_mul, pick_add_mul, pick_swap, pick_swap, pick_swap, pick_swap]
  have ha' : (0 : EReal) ≤ a := by exact_mod_cast ha
  have dist : ∀ (p q : EReal) (r : ℝ), 0 ≤ r → (p + q) * (r : EReal) = p * (r : EReal) + q * (r : EReal) := fun p q r hr =>
    EReal.right_distrib_of_nonneg_of_ne_top (by exact_mod_cast hr) (EReal.coe_ne_top r) p q
  unfold bil
  simp only [dist _ _ a ha, dist _ _ _ hx0, dist _ _ _ hx1, EReal.coe_mul]
  ac_rfl

/-! ## Real numbers among the extended reals -/

/-- A real is a real. -/
theorem IsR.coe (r : ℝ) : IsR (r : EReal) := ⟨r, rfl⟩
/-- Zero is a real. -/
theorem IsR.zero : IsR 0 := ⟨0, rfl⟩
/-- A sum of two reals is a real. -/
theorem IsR.add {a b : EReal} : IsR a → IsR b → IsR (a + b)
  | ⟨r, hr⟩, ⟨s, hs⟩ => ⟨r + s, by rw [hr, hs]; rfl⟩
/-- A product of two reals is a real. -/
theorem IsR.mul {a b : EReal} : IsR a → IsR b → IsR (a * b)
  | ⟨r, hr⟩, ⟨s, hs⟩ => ⟨r * s, by rw [hr, hs]; rfl⟩
/-- A difference of two reals is a real. -/
theorem IsR.sub {a b : EReal} : IsR a → IsR b → IsR (a - b)
  | ⟨r, hr⟩, ⟨s, hs⟩ => ⟨r - s, by rw [hr, hs]; rfl⟩
/-- A finite sum of reals is a real. -/
theorem IsR.sum {ι : Type*} (s : Finset ι) (f : ι → EReal) (h : ∀ i, IsR (f i)) : IsR (∑ i ∈ s, f i) := by
  classical
  induction s using Finset.induction_on with
  | empty => exact ⟨0, by simp⟩
  | insert i s hi ih => rw [Finset.sum_insert hi]; exact (h i).add ih
/-- An extended real other than the two infinities is a real. -/
theorem isR_of_ne {e : EReal} (h1 : e ≠ ⊤) (h2 : e ≠ ⊥) : IsR e := ⟨e.toReal, (EReal.coe_toReal h1 h2).symm⟩
/-- A real among the extended reals is the coercion of its real part. -/
theorem IsR.coe_toReal {e : EReal} (h : IsR e) : (e.toReal : EReal) = e := by obtain ⟨r, rfl⟩ := h; rfl

/-- The hyperbolic tangent is always a real. -/
theorem isR_tanh (x : EReal) : IsR (Ideal.tanh x) := by
  induction x using EReal.rec with
  | bot => exact ⟨-1, rfl⟩
  | top => exact ⟨1, rfl⟩
  | coe r => exact ⟨_, rfl⟩

/-- The error function of a real is a real. -/
theorem isR_erf {x : EReal} (h : IsR x) : IsR (Ideal.erf x) := by
  obtain ⟨r, rfl⟩ := h; exact ⟨_, rfl⟩

/-- The word of one half. -/
theorem ofBits_half : Ideal.ofBits .f32 0x3F000000#32 = ((1 / 2 : ℝ) : EReal) := by
  simp [Ideal.ofBits, Ideal.ieee]; norm_num [← EReal.coe_mul]
/-- The word of two. -/
theorem ofBits_two : Ideal.ofBits .f32 0x40000000#32 = ((2 : ℝ) : EReal) := by
  simp [Ideal.ofBits, Ideal.ieee]; norm_num [← EReal.coe_mul]
/-- The word of 63. -/
theorem ofBits_63 : Ideal.ofBits .f32 0x427C0000#32 = ((63 : ℝ) : EReal) := by
  simp [Ideal.ofBits, Ideal.ieee]; norm_num [← EReal.coe_mul]
/-- The word of 32. -/
theorem ofBits_32 : Ideal.ofBits .f32 0x42000000#32 = ((32 : ℝ) : EReal) := by
  simp [Ideal.ofBits, Ideal.ieee]; norm_num [← EReal.coe_mul]
/-- The word nearest the square root of a half denotes a real. -/
theorem isR_sqrtHalf : IsR (Ideal.ofBits .f32 0x3F3504F3#32) := by
  refine ⟨11863283 * (2 ^ 24 : ℝ)⁻¹, ?_⟩
  simp [Ideal.ofBits, Ideal.ieee]
/-- The word of one. -/
theorem ofBits_one : Ideal.ofBits .f32 0x3F800000#32 = ((1 : ℝ) : EReal) := by
  rw [Ideal.ofBits_one_f32]; rfl

/-- The word of the negative infinity. -/
theorem ofBits_neg_inf : Ideal.ofBits .f32 0xFF800000#32 = ⊥ := by
  simp [Ideal.ofBits, Ideal.ieee]

/-- A sum over 63 samples is the sum over seven frames of nine samples. -/
theorem sum_63 (f : Fin 63 → EReal) : ∑ j : Fin 63, f j = ∑ t : Fin 7, ∑ k : Fin 9, f ⟨t.val * 9 + k.val, by omega⟩ := by
  rw [← (finProdFinEquiv (m := 7) (n := 9)).sum_comp, Fintype.sum_prod_type]
  refine Finset.sum_congr rfl fun t _ => Finset.sum_congr rfl fun k _ => congrArg f (Fin.ext ?_)
  show k.val + 9 * t.val = t.val * 9 + k.val
  omega

/-- A sampling offset is always a real. -/
theorem isR_off (Q : Fin 96 → Fin 64 → Fin 64 → EReal) (W : Fin 96 → Fin 96 → Fin 3 → Fin 3 → EReal)
    (B : Fin 96 → EReal) (W2 : Fin 504 → Fin 96 → EReal) (B2 : Fin 504 → EReal) (o : Fin 504) (y x : Fin 64) :
    IsR (off Q W B W2 B2 o y x) := by
  unfold off
  rw [ofBits_32]
  exact (isR_tanh _).mul (IsR.coe _)

/-- The coordinate divided by 63, doubled, shifted by one and back, halved and multiplied by 63 is the coordinate. -/
theorem grid_coord (n : ℕ) (e : EReal) (he : IsR e) :
    (Ideal.div (((n : ℝ) : EReal) + e) (Ideal.ofBits FTy.f32 0x427C0000#32) * Ideal.ofBits FTy.f32 0x40000000#32 - 1 + 1)
      * Ideal.ofBits FTy.f32 0x3F000000#32 * Ideal.ofBits FTy.f32 0x427C0000#32 = (((n : ℝ) + e.toReal : ℝ) : EReal) := by
  obtain ⟨r, rfl⟩ := he
  rw [ofBits_63, ofBits_two, ofBits_half, EReal.toReal_coe]
  unfold Ideal.div
  rw [if_neg (by norm_num), ← EReal.coe_add, ← EReal.coe_inv, ← EReal.coe_mul, ← EReal.coe_mul, ← EReal.coe_one, ← EReal.coe_sub,
    ← EReal.coe_add, ← EReal.coe_mul, ← EReal.coe_mul]
  congr 1
  field_simp
  ring

end Cert.Spec
-- ==== Proof.KRun.lean ====
/- The kernel's run from any memory: every buffer ends at the last boundary's contents, so the result is read there and
   every argument is as launched. -/
module

public import proofs.«01_k».proof.Proof.Gen.KernelIdeal.Frame
public import proofs.«01_k».proof.Proof.Spec

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the kernel terminates with every buffer of a core at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

/-- The kernel's result is the last boundary's contents of its buffer, and its arguments are as launched. -/
theorem run : θ_run defs (onTc (τ := τ) (main (F := Ideal))) ⟨m, fun _ => 0, ρ⟩ (fun r => ∀ c : Dev nD,
      r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v39 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c)⟩) (run_all m ρ)

end Cert.KRun
-- ==== Proof.Words.lean ====
/- The integer words of the samples: a clamped coordinate, the flat index built from two of them, the bit that says a
   sample lies on the image, and a column or row number compared with a truncated coordinate. -/
module

public import proofs.«01_k».proof.Proof.Spec
public import Idealize.ShloMosaic.Lib.Tactic.WordOmega

@[expose] public section

noncomputable section

namespace Cert.Spec

open Idealize.ShloMosaic

/-- Truncating an integer-valued real gives the integer, clamped to the words of 32 bits. -/
theorem fptosi_int (n : ℤ) : (FloatOps.fptosi (F := Ideal) (φ := .f32) 32 ((n : ℝ) : EReal) : BitVec 32)
    = BitVec.ofInt 32 (max (-2147483648) (min 2147483647 n)) := by
  show BitVec.ofInt 32 (max (-2147483648) (min 2147483647 (if (0 : ℝ) ≤ (n : ℝ) then ⌊(n : ℝ)⌋ else ⌈(n : ℝ)⌉))) = _
  rw [Int.floor_intCast, Int.ceil_intCast, ite_self]

/-- A coordinate clamped to the image, as a word. -/
theorem clamp_word (n : ℤ) : (FloatOps.fptosi (F := Ideal) (φ := .f32) 32
      (min (FloatOps.sitofp (F := Ideal) FTy.f32 63#32) (max (FloatOps.sitofp (F := Ideal) FTy.f32 0#32) ((n : ℝ) : EReal))) : BitVec 32)
    = BitVec.ofNat 32 (min 63 (max 0 n)).toNat := by
  have h : (min (FloatOps.sitofp (F := Ideal) FTy.f32 63#32 : EReal) (max (FloatOps.sitofp (F := Ideal) FTy.f32 0#32) ((n : ℝ) : EReal)))
      = (((min 63 (max 0 n) : ℤ) : ℝ) : EReal) := by
    show min (((63#32 : BitVec 32).toInt : ℝ) : EReal) (max (((0#32 : BitVec 32).toInt : ℝ) : EReal) ((n : ℝ) : EReal)) = _
    rw [show (63#32 : BitVec 32).toInt = 63 from rfl, show (0#32 : BitVec 32).toInt = 0 from rfl, ← EReal.coe_strictMono.monotone.map_max,
      ← EReal.coe_strictMono.monotone.map_min, ← Int.cast_max, ← Int.cast_min]
  rw [h, fptosi_int]
  obtain ⟨k, hk⟩ : ∃ k : ℕ, min 63 (max 0 n) = (k : ℤ) := ⟨_, (Int.toNat_of_nonneg (by omega)).symm⟩
  rw [hk, show max (-2147483648) (min 2147483647 (k : ℤ)) = (k : ℤ) by omega]
  simp

/-- The flat index of a row and a column, after the wrap of negative indices, read as a number. -/
theorem flat_index (a b : ℕ) (ha : a < 64) (hb : b < 64) :
    (Scalar.select (IntOp.cmpi CmpIPredicate.slt (IntOp.addi (IntOp.muli (BitVec.ofNat 32 a) 64#32) (BitVec.ofNat 32 b)) 0#32)
      (IntOp.addi (IntOp.addi (IntOp.muli (BitVec.ofNat 32 a) 64#32) (BitVec.ofNat 32 b)) 4096#32)
      (IntOp.addi (IntOp.muli (BitVec.ofNat 32 a) 64#32) (BitVec.ofNat 32 b))).toInt.toNat = a * 64 + b := by
  have h : IntOp.addi (IntOp.muli (BitVec.ofNat 32 a) 64#32) (BitVec.ofNat 32 b) = BitVec.ofNat 32 (a * 64 + b) := by
    simp [IntOp.addi, IntOp.muli, BitVec.ofNat_add, BitVec.ofNat_mul]
  rw [h]
  have hlt : a * 64 + b < 4096 := by omega
  generalize a * 64 + b = k at hlt ⊢
  word_omega

/-- The bit of a sample's place on the image, as a number: one on the image, zero off it. -/
theorem valid_bit (nx ny : ℤ) :
    (FloatOps.uitofp (F := Ideal) FTy.f32
      (IntOp.andi (IntOp.andi (IntOp.andi (BitVec.ofBool (decide ((0 : EReal) ≤ ((nx : ℝ) : EReal))))
          (BitVec.ofBool (decide (((nx : ℝ) : EReal) ≤ Ideal.ofBits FTy.f32 0x427C0000#32))))
        (BitVec.ofBool (decide ((0 : EReal) ≤ ((ny : ℝ) : EReal)))))
        (BitVec.ofBool (decide (((ny : ℝ) : EReal) ≤ Ideal.ofBits FTy.f32 0x427C0000#32)))) : EReal)
      = if (0 ≤ ny ∧ ny < 64) ∧ (0 ≤ nx ∧ nx < 64) then 1 else 0 := by
  have h0 : ∀ n : ℤ, ((0 : EReal) ≤ ((n : ℝ) : EReal)) ↔ 0 ≤ n := fun n => by
    rw [← EReal.coe_zero, EReal.coe_le_coe_iff]; exact_mod_cast Iff.rfl
  have h1 : ∀ n : ℤ, (((n : ℝ) : EReal) ≤ Ideal.ofBits FTy.f32 0x427C0000#32) ↔ n < 64 := fun n => by
    rw [ofBits_63, EReal.coe_le_coe_iff, show (63 : ℝ) = ((63 : ℤ) : ℝ) by norm_num, Int.cast_le]; omega
  simp only [h0, h1]
  by_cases a : 0 ≤ nx <;> by_cases b : nx < 64 <;> by_cases c : 0 ≤ ny <;> by_cases d : ny < 64 <;>
    simp only [a, b, c, d, decide_true, decide_false, and_true, and_false, true_and, false_and, if_true, if_false] <;>
    first
      | exact (by norm_num : (((1 : ℕ) : ℝ) : EReal) = 1)
      | exact (by norm_num : (((0 : ℕ) : ℝ) : EReal) = 0)

/-- A number compared with a truncated coordinate, under a select. -/
theorem sel_eq (y : Fin 64) (n : ℤ) (u : EReal) :
    Scalar.select (IntOp.cmpi .eq (BitVec.ofNat 32 y.val) (FloatOps.fptosi (F := Ideal) (φ := .f32) 32 ((n : ℝ) : EReal))) u 0
      = if (y.val : ℤ) = n then u else 0 := by
  rw [fptosi_int]
  have hy := y.isLt
  have key : BitVec.ofNat 32 y.val = BitVec.ofInt 32 (max (-2147483648) (min 2147483647 n)) ↔ (y.val : ℤ) = n := by
    rw [← BitVec.toInt_inj, BitVec.toInt_ofNat', BitVec.toInt_ofInt]
    simp only [Int.bmod_def, Nat.reducePow]
    omega
  unfold Scalar.select IntOp.cmpi
  by_cases h : (y.val : ℤ) = n
  · simp [h, key.2 h]
  · simp [h, beq_eq_false_iff_ne.mpr (mt key.1 h)]

/-- A number compared with a truncated coordinate plus one, under a select. -/
theorem sel_eq_succ (y : Fin 64) (n : ℤ) (u : EReal) :
    Scalar.select (IntOp.cmpi .eq (BitVec.ofNat 32 y.val) (IntOp.addi (FloatOps.fptosi (F := Ideal) (φ := .f32) 32 ((n : ℝ) : EReal)) 1#32)) u 0
      = if (y.val : ℤ) = n + 1 then u else 0 := by
  rw [fptosi_int]
  have hy := y.isLt
  have key : BitVec.ofNat 32 y.val = IntOp.addi (BitVec.ofInt 32 (max (-2147483648) (min 2147483647 n))) 1#32 ↔ (y.val : ℤ) = n + 1 := by
    show _ = BitVec.ofInt 32 (max (-2147483648) (min 2147483647 n)) + BitVec.ofInt 32 1 ↔ _
    rw [← BitVec.ofInt_add, ← BitVec.toInt_inj, BitVec.toInt_ofNat', BitVec.toInt_ofInt]
    simp only [Int.bmod_def, Nat.reducePow]
    omega
  unfold Scalar.select IntOp.cmpi
  by_cases h : (y.val : ℤ) = n + 1
  · simp [h, key.2 h]
  · simp [h, beq_eq_false_iff_ne.mpr (mt key.1 h)]

/-- The reference's sample: the image read at the clamped flat index, times the bit, is the entry or zero. -/
theorem sample_eq (img : Fin 64 → Fin 64 → EReal) (X Y : EReal) (nx ny : ℤ) (hX : X = ((nx : ℝ) : EReal)) (hY : Y = ((ny : ℝ) : EReal))
    (w : BitVec 32) (hw : w = IntOp.addi (IntOp.muli (FloatOps.fptosi (F := Ideal) (φ := .f32) 32
        (min (FloatOps.sitofp (F := Ideal) FTy.f32 63#32) (max (FloatOps.sitofp (F := Ideal) FTy.f32 0#32) Y))) 64#32)
      (FloatOps.fptosi (F := Ideal) (φ := .f32) 32
        (min (FloatOps.sitofp (F := Ideal) FTy.f32 63#32) (max (FloatOps.sitofp (F := Ideal) FTy.f32 0#32) X))))
    (i : Fin 4096) (hi : i.val = min (Scalar.select (IntOp.cmpi CmpIPredicate.slt w 0#32) (IntOp.addi w 4096#32) w).toInt.toNat 4095) :
    img ⟨i.val / 64, by omega⟩ ⟨i.val % 64, by omega⟩ * (FloatOps.uitofp (F := Ideal) FTy.f32
      (IntOp.andi (IntOp.andi (IntOp.andi (BitVec.ofBool (decide ((0 : EReal) ≤ X)))
          (BitVec.ofBool (decide (X ≤ Ideal.ofBits FTy.f32 0x427C0000#32))))
        (BitVec.ofBool (decide ((0 : EReal) ≤ Y))))
        (BitVec.ofBool (decide (Y ≤ Ideal.ofBits FTy.f32 0x427C0000#32)))) : EReal) = pick2 img ny nx := by
  subst hX hY hw
  rw [clamp_word, clamp_word, flat_index _ _ (by omega) (by omega)] at hi
  rw [valid_bit]
  unfold pick2 pick
  by_cases hy : 0 ≤ ny ∧ ny < 64
  · by_cases hx : 0 ≤ nx ∧ nx < 64
    · rw [if_pos ⟨hy, hx⟩, dif_pos hy, mul_one]
      dsimp only
      rw [dif_pos hx]
      congr 1 <;> exact Fin.ext (by show _ = _; simp only; omega)
    · rw [if_neg (fun h => hx h.2), dif_pos hy, mul_zero]
      dsimp only
      rw [dif_neg hx]
  · rw [if_neg (fun h => hy h.1), dif_neg hy, mul_zero]

end Cert.Spec
-- ==== Proof.Ref.lean ====
/- The reference's printed terms read at an index: each is the plain formula of Spec. -/
module

public import proofs.«01_k».proof.Proof.Gen.ReferenceIdeal.Run
public import proofs.«01_k».proof.Proof.Words
public import Idealize.ShloMosaic.Lib.Pointwise
public import Idealize.ShloMosaic.Lib.Tactic.CleanTypes

@[expose] public section

set_option maxRecDepth 16384

noncomputable section

namespace Cert.Ref

open Idealize.ShloMosaic Idealize.SL.Sem Cert.ReferenceIdeal Cert.ReferenceIdeal.Gen Cert.ReferenceIdeal.Value

variable (V : Valuation τ sig (Elt Ideal))

/-- The query of the arguments, by channel, row and column. -/
def aQ : Fin 96 → Fin 64 → Fin 64 → EReal := fun c y x => (V (Proc.devRef .tc main_arg0) : FVec Ideal S1x96x64x64 .f32) (ix4 0 c y x)
/-- The context, by frame, channel, row and column. -/
def aX : Fin 7 → Fin 96 → Fin 64 → Fin 64 → EReal := fun t c y x => (V (Proc.devRef .tc main_arg1) : FVec Ideal S7x1x96x64x64 .f32) (ix5 t 0 c y x)
/-- The 3 x 3 weights of the offsets. -/
def aOW1 : Fin 96 → Fin 96 → Fin 3 → Fin 3 → EReal := fun o c i j => (V (Proc.devRef .tc main_arg2) : FVec Ideal S96x96x3x3 .f32) (ix4 o c i j)
/-- Their bias. -/
def aOB1 : Fin 96 → EReal := fun o => (V (Proc.devRef .tc main_arg3) : FVec Ideal S96 .f32) (ix1 o)
/-- The 1 x 1 weights of the offsets. -/
def aOW2 : Fin 504 → Fin 96 → EReal := fun o c => (V (Proc.devRef .tc main_arg4) : FVec Ideal S504x96x1x1 .f32) (ix4 o c 0 0)
/-- Their bias. -/
def aOB2 : Fin 504 → EReal := fun o => (V (Proc.devRef .tc main_arg5) : FVec Ideal S504 .f32) (ix1 o)
/-- The 3 x 3 weights of the attention. -/
def aAW1 : Fin 96 → Fin 96 → Fin 3 → Fin 3 → EReal := fun o c i j => (V (Proc.devRef .tc main_arg6) : FVec Ideal S96x96x3x3 .f32) (ix4 o c i j)
/-- Their bias. -/
def aAB1 : Fin 96 → EReal := fun o => (V (Proc.devRef .tc main_arg7) : FVec Ideal S96 .f32) (ix1 o)
/-- The 1 x 1 weights of the attention. -/
def aAW2 : Fin 252 → Fin 96 → EReal := fun o c => (V (Proc.devRef .tc main_arg8) : FVec Ideal S252x96x1x1 .f32) (ix4 o c 0 0)
/-- Their bias. -/
def aAB2 : Fin 252 → EReal := fun o => (V (Proc.devRef .tc main_arg9) : FVec Ideal S252 .f32) (ix1 o)
/-- The weights of the values. -/
def aVW : Fin 96 → Fin 96 → EReal := fun o c => (V (Proc.devRef .tc main_arg10) : FVec Ideal S96x96x1x1 .f32) (ix4 o c 0 0)
/-- Their bias. -/
def aVB : Fin 96 → EReal := fun o => (V (Proc.devRef .tc main_arg11) : FVec Ideal S96 .f32) (ix1 o)
/-- The weights of the output. -/
def aUW : Fin 96 → Fin 96 → EReal := fun o c => (V (Proc.devRef .tc main_arg12) : FVec Ideal S96x96x1x1 .f32) (ix4 o c 0 0)
/-- Their bias. -/
def aUB : Fin 96 → EReal := fun o => (V (Proc.devRef .tc main_arg13) : FVec Ideal S96 .f32) (ix1 o)

/-- The query without its leading axis. -/
theorem v0_at (c : Fin 96) (y x : Fin 64) : (res_main_v0 V : FVec Ideal S96x64x64 .f32) (ix3 c y x) = aQ V c y x := by
  unfold res_main_v0 aQ
  clean_types
  pointwise

/-- The query padded, as the offsets' convolution reads it. -/
theorem v1_at (c : Fin 96) (y x : Fin 66) : (res_main_v1 V : FVec Ideal S96x66x66 .f32) (ix3 c y x) = Spec.qp (aQ V) c y x := by
  unfold res_main_v1
  clean_types
  pointwise
  unfold Spec.qp
  split_ifs with h
  · exact v0_at V _ _ _
  · show (((0#32 : BitVec 32).toInt : ℝ) : EReal) = 0
    simp

/-- The query padded, as the weights' convolution reads it: the same array. -/
theorem v68_at (c : Fin 96) (y x : Fin 66) : (res_main_v68 V : FVec Ideal S96x66x66 .f32) (ix3 c y x) = Spec.qp (aQ V) c y x :=
  v1_at V c y x

/-- The offsets' convolution is the mathematics' convolution. -/
theorem v50_at (o : Fin 96) (y x : Fin 64) : (res_main_v50 V : FVec Ideal S96x64x64 .f32) (ix3 o y x) = Spec.conv (aQ V) (aOW1 V) (aOB1 V) o y x := by
  unfold res_main_v50
  clean_types
  pointwise
  simp only [v1_at]
  unfold Spec.conv Spec.convTap
  simp only [Fin.val_zero, zero_add]
  rfl

/-- The weights' convolution is the mathematics' convolution. -/
theorem v117_at (o : Fin 96) (y x : Fin 64) : (res_main_v117 V : FVec Ideal S96x64x64 .f32) (ix3 o y x) = Spec.conv (aQ V) (aAW1 V) (aAB1 V) o y x := by
  unfold res_main_v117
  clean_types
  pointwise
  simp only [v68_at]
  unfold Spec.conv Spec.convTap
  simp only [Fin.val_zero, zero_add]
  rfl

/-- The offsets, split by head, frame, sample and axis. -/
theorem v67_at (h : Fin 4) (t : Fin 7) (k : Fin 9) (e : Fin 2) (y x : Fin 64) :
    (res_main_v67 V : FVec Ideal S4x7x9x2x64x64 .f32) (ix6 h t k e y x)
      = Spec.off (aQ V) (aOW1 V) (aOB1 V) (aOW2 V) (aOB2 V) ⟨((h.val * 7 + t.val) * 9 + k.val) * 2 + e.val, by omega⟩ y x := by
  unfold res_main_v67
  clean_types
  pointwise
  simp only [v50_at]
  rw [show (⟨((h.val * 7 + t.val) * 9 + k.val) * 2 + e.val, by omega⟩ : Fin 504) = ⟨h.val * 126 + t.val * 18 + k.val * 2 + e.val, by omega⟩ from Fin.ext (by simp only; omega)]
  rfl

/-- The logits, split by head and sample. -/
theorem v131_at (h : Fin 4) (j : Fin 63) (y x : Fin 64) :
    (res_main_v131 V : FVec Ideal S4x63x64x64 .f32) (ix4 h j y x)
      = Spec.logit (aQ V) (aAW1 V) (aAB1 V) (aAW2 V) (aAB2 V) ⟨h.val * 63 + j.val, by omega⟩ y x := by
  unfold res_main_v131
  clean_types
  pointwise
  simp only [v117_at]
  rfl

/-- The exponentials of the logits less their maximum. -/
theorem v138_at (h : Fin 4) (j : Fin 63) (y x : Fin 64) :
    (res_main_v138 V : FVec Ideal S4x63x64x64 .f32) (ix4 h j y x)
      = Ideal.exp (Spec.logit (aQ V) (aAW1 V) (aAB1 V) (aAW2 V) (aAB2 V) ⟨h.val * 63 + j.val, by omega⟩ y x
        - Finset.univ.fold max ⊥ (fun k : Fin 63 => Spec.logit (aQ V) (aAW1 V) (aAB1 V) (aAW2 V) (aAB2 V) ⟨h.val * 63 + k.val, by omega⟩ y x)) := by
  unfold res_main_v138
  clean_types
  pointwise
  simp only [v131_at]
  rw [Spec.ofBits_neg_inf, max_eq_right bot_le]

/-- The value projection, split by head, frame and channel. -/
theorem v176_at (h : Fin 4) (t : Fin 7) (d : Fin 24) (p : Fin 4096) :
    (res_main_v176 V : FVec Ideal S4x7x24x4096 .f32) (ix4 h t d p)
      = Spec.vproj (aX V) (aVW V) (aVB V) t ⟨h.val * 24 + d.val, by omega⟩ ⟨p.val / 64, by omega⟩ ⟨p.val % 64, by omega⟩ := by
  unfold res_main_v176
  clean_types
  pointwise
  rfl

/-- The dimension numbers of the samples' gather. -/
abbrev gd := gather_S4x7x24x4096_S4x7x9x64x64x1_S4x7x24x9x64x64_2_3_01_01_3_5_11241

/-- The gather of an image's entries at a word index below 4096 reads that entry. -/
theorem gather_at {α : Type} (v : S4x7x24x4096.Idx → α) (idx : IVec S4x7x9x64x64x1 32)
    (h : Fin 4) (t : Fin 7) (d : Fin 24) (k : Fin 9) (y x : Fin 64) :
    Host.gather gather_S4x7x24x4096_S4x7x9x64x64x1_S4x7x24x9x64x64_2_3_01_01_3_5_11241 v idx (ix6 h t d k y x)
      = v (ix4 h t d ⟨min (idx (ix6 h t k y x 0)).toInt.toNat 4095, by omega⟩) := by
  unfold Host.gather
  congr 1
  funext a
  refine Fin.ext ?_
  show gd.start _ idx a + gd.batchCoord _ a + gd.offCoord _ a = _
  have mem : ∀ a : Fin 4, a = 0 ∨ a = 1 ∨ a = 2 ∨ a = 3 := by decide
  have b0 : (0 : Fin 4) ∈ gd.operandBatchingDims := by decide
  have b1 : (1 : Fin 4) ∈ gd.operandBatchingDims := by decide
  have b2 : (2 : Fin 4) ∉ gd.operandBatchingDims := by decide
  have b3 : (3 : Fin 4) ∉ gd.operandBatchingDims := by decide
  have c3 : (3 : Fin 4) ∈ gd.collapsedSliceDims := by decide
  have s2 : (2 : Fin 4) ∉ gd.startIndexMap := by decide
  have s3 : (3 : Fin 4) ∈ gd.startIndexMap := by decide
  have start2 : gd.start (ix6 h t d k y x) idx (2 : Fin 4) = 0 := dif_neg s2
  have start3 : gd.start (ix6 h t d k y x) idx (3 : Fin 4) = min (idx (ix6 h t k y x 0)).toInt.toNat 4095 := by
    have hsi : gd.siIdx (ix6 h t d k y x) ⟨List.idxOf (3 : Fin 4) [3], by decide⟩ = ix6 h t k y x 0 := by
      funext b
      refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    exact (dif_pos s3).trans (congrArg (fun i => min (idx i).toInt.toNat 4095) hsi)
  rcases mem a with rfl | rfl | rfl | rfl
  · rw [gd.start_batching _ _ _ b0, gd.offCoord_eq_zero _ _ (fun h => ((gd.mem_sKept _).mp h).2 b0), Nat.zero_add, Nat.add_zero]
    rfl
  · rw [gd.start_batching _ _ _ b1, gd.offCoord_eq_zero _ _ (fun h => ((gd.mem_sKept _).mp h).2 b1), Nat.zero_add, Nat.add_zero]
    rfl
  · rw [start2, gd.batchCoord_eq_zero _ _ b2, Nat.zero_add]
    rfl
  · rw [start3, gd.batchCoord_eq_zero _ _ b3, gd.offCoord_eq_zero _ _ (fun h => ((gd.mem_sKept _).mp h).1 c3)]
    rfl

/-- The column a sample is taken at. -/
def sX (h : Fin 4) (t : Fin 7) (k : Fin 9) (y x : Fin 64) : ℝ :=
  (x.val : ℝ) + (Spec.off (aQ V) (aOW1 V) (aOB1 V) (aOW2 V) (aOB2 V) ⟨((h.val * 7 + t.val) * 9 + k.val) * 2, by omega⟩ y x).toReal

/-- The row a sample is taken at. -/
def sY (h : Fin 4) (t : Fin 7) (k : Fin 9) (y x : Fin 64) : ℝ :=
  (y.val : ℝ) + (Spec.off (aQ V) (aOW1 V) (aOB1 V) (aOW2 V) (aOB2 V) ⟨((h.val * 7 + t.val) * 9 + k.val) * 2 + 1, by omega⟩ y x).toReal

/-- A coordinate's word, read as a float, is the coordinate. -/
theorem coord_word (n : Fin 64) : (FloatOps.sitofp (F := Ideal) FTy.f32 (BitVec.ofNat 32 n.val) : EReal) = ((n.val : ℝ) : EReal) := by
  show (((BitVec.ofNat 32 n.val).toInt : ℝ) : EReal) = _
  rw [BitVec.toInt_ofNat', show Int.bmod (n.val : ℤ) (2 ^ 32) = n.val by simp only [Int.bmod_def, Nat.reducePow]; omega]
  simp

/-- The column coordinate of a sample, as the reference's normalisation leaves it. -/
theorem v182_at (h : Fin 4) (t : Fin 7) (k : Fin 9) (y x : Fin 64) :
    (res_main_v182 V : FVec Ideal S4x7x9x64x64 .f32) (ix5 h t k y x) = ((sX V h t k y x : ℝ) : EReal) := by
  unfold res_main_v182
  clean_types
  pointwise
  rw [v67_at, coord_word]
  exact Spec.grid_coord _ _ (Spec.isR_off _ _ _ _ _ _ _ _)

/-- The row coordinate of a sample, as the reference's normalisation leaves it. -/
theorem v188_at (h : Fin 4) (t : Fin 7) (k : Fin 9) (y x : Fin 64) :
    (res_main_v188 V : FVec Ideal S4x7x9x64x64 .f32) (ix5 h t k y x) = ((sY V h t k y x : ℝ) : EReal) := by
  unfold res_main_v188
  clean_types
  pointwise
  rw [v67_at, coord_word]
  exact Spec.grid_coord _ _ (Spec.isR_off _ _ _ _ _ _ _ _)

/-- The lower column of a sample: the floor of its coordinate. -/
theorem v189_at (h : Fin 4) (t : Fin 7) (k : Fin 9) (y x : Fin 64) :
    (res_main_v189 V : FVec Ideal S4x7x9x64x64 .f32) (ix5 h t k y x) = (((⌊sX V h t k y x⌋ : ℤ) : ℝ) : EReal) := by
  unfold res_main_v189
  clean_types
  pointwise
  rw [v182_at]
  rfl

/-- The lower row of a sample: the floor of its coordinate. -/
theorem v190_at (h : Fin 4) (t : Fin 7) (k : Fin 9) (y x : Fin 64) :
    (res_main_v190 V : FVec Ideal S4x7x9x64x64 .f32) (ix5 h t k y x) = (((⌊sY V h t k y x⌋ : ℤ) : ℝ) : EReal) := by
  unfold res_main_v190
  clean_types
  pointwise
  rw [v188_at]
  rfl

/-- The upper column of a sample. -/
theorem v192_at (h : Fin 4) (t : Fin 7) (k : Fin 9) (y x : Fin 64) :
    (res_main_v192 V : FVec Ideal S4x7x9x64x64 .f32) (ix5 h t k y x) = (((⌊sX V h t k y x⌋ + 1 : ℤ) : ℝ) : EReal) := by
  unfold res_main_v192
  clean_types
  pointwise
  rw [v189_at]
  push_cast
  rfl

/-- The upper row of a sample. -/
theorem v194_at (h : Fin 4) (t : Fin 7) (k : Fin 9) (y x : Fin 64) :
    (res_main_v194 V : FVec Ideal S4x7x9x64x64 .f32) (ix5 h t k y x) = (((⌊sY V h t k y x⌋ + 1 : ℤ) : ℝ) : EReal) := by
  unfold res_main_v194
  clean_types
  pointwise
  rw [v190_at]
  push_cast
  rfl

/-- The weight of the upper column. -/
theorem v195_at (h : Fin 4) (t : Fin 7) (k : Fin 9) (y x : Fin 64) :
    (res_main_v195 V : FVec Ideal S4x7x9x64x64 .f32) (ix5 h t k y x) = ((sX V h t k y x - ⌊sX V h t k y x⌋ : ℝ) : EReal) := by
  unfold res_main_v195
  clean_types
  pointwise
  rw [v182_at, v189_at]
  rfl

/-- The weight of the upper row. -/
theorem v198_at (h : Fin 4) (t : Fin 7) (k : Fin 9) (y x : Fin 64) :
    (res_main_v198 V : FVec Ideal S4x7x9x64x64 .f32) (ix5 h t k y x) = ((sY V h t k y x - ⌊sY V h t k y x⌋ : ℝ) : EReal) := by
  unfold res_main_v198
  clean_types
  pointwise
  rw [v188_at, v190_at]
  rfl

/-- The weight of the lower column. -/
theorem v197_at (h : Fin 4) (t : Fin 7) (k : Fin 9) (y x : Fin 64) :
    (res_main_v197 V : FVec Ideal S4x7x9x64x64 .f32) (ix5 h t k y x) = ((1 - (sX V h t k y x - ⌊sX V h t k y x⌋) : ℝ) : EReal) := by
  unfold res_main_v197
  clean_types
  pointwise
  rw [v195_at]
  rfl

/-- The weight of the lower row. -/
theorem v200_at (h : Fin 4) (t : Fin 7) (k : Fin 9) (y x : Fin 64) :
    (res_main_v200 V : FVec Ideal S4x7x9x64x64 .f32) (ix5 h t k y x) = ((1 - (sY V h t k y x - ⌊sY V h t k y x⌋) : ℝ) : EReal) := by
  unfold res_main_v200
  clean_types
  pointwise
  rw [v198_at]
  rfl

end Cert.Ref
-- ==== Proof.RefB.lean ====
/- The reference's printed terms read at an index: each is the plain formula of Spec. -/
module

public import proofs.«01_k».proof.Proof.Gen.ReferenceIdeal.Run
public import proofs.«01_k».proof.Proof.Ref
public import Idealize.ShloMosaic.Lib.Pointwise
public import Idealize.ShloMosaic.Lib.Tactic.CleanTypes

@[expose] public section

set_option maxRecDepth 16384

noncomputable section

namespace Cert.Ref

open Idealize.ShloMosaic Idealize.SL.Sem Cert.ReferenceIdeal Cert.ReferenceIdeal.Gen Cert.ReferenceIdeal.Value

variable (V : Valuation τ sig (Elt Ideal))

/-- A gather of the values at flat indices, times the bit of its place on the image, is the image's entry or zero. -/
theorem sample_at (idxv : IVec S4x7x9x64x64 32) (X Y : EReal) (nx ny : ℤ) (h : Fin 4) (t : Fin 7) (d : Fin 24) (k : Fin 9)
    (y x : Fin 64) (hX : X = ((nx : ℝ) : EReal)) (hY : Y = ((ny : ℝ) : EReal))
    (hw : idxv (ix5 h t k y x) = IntOp.addi (IntOp.muli (FloatOps.fptosi (F := Ideal) (φ := .f32) 32
        (min (FloatOps.sitofp (F := Ideal) FTy.f32 63#32) (max (FloatOps.sitofp (F := Ideal) FTy.f32 0#32) Y))) 64#32)
      (FloatOps.fptosi (F := Ideal) (φ := .f32) 32
        (min (FloatOps.sitofp (F := Ideal) FTy.f32 63#32) (max (FloatOps.sitofp (F := Ideal) FTy.f32 0#32) X)))) :
    (Host.gather gather_S4x7x24x4096_S4x7x9x64x64x1_S4x7x24x9x64x64_2_3_01_01_3_5_11241 (res_main_v176 V)
        (broadcastInDim S4x7x9x64x64x1 ![0, 1, 2, 3, 4] bcast_S4x7x9x64x64_S4x7x9x64x64x1_0_1_2_3_4
          (select (cmpi CmpIPredicate.slt idxv (broadcastInDim S4x7x9x64x64 ![] bcast_S_S4x7x9x64x64 (constantI S_ 32 0#32)))
            (addi idxv (broadcastInDim S4x7x9x64x64 ![] bcast_S_S4x7x9x64x64 (constantI S_ 32 4096#32))) idxv))
        (ix6 h t d k y x) : EReal)
      * (FloatOps.uitofp (F := Ideal) FTy.f32
      (IntOp.andi (IntOp.andi (IntOp.andi (BitVec.ofBool (decide ((0 : EReal) ≤ X)))
          (BitVec.ofBool (decide (X ≤ Ideal.ofBits FTy.f32 0x427C0000#32))))
        (BitVec.ofBool (decide ((0 : EReal) ≤ Y))))
        (BitVec.ofBool (decide (Y ≤ Ideal.ofBits FTy.f32 0x427C0000#32)))) : EReal)
      = Spec.pick2 (Spec.vproj (aX V) (aVW V) (aVB V) t ⟨h.val * 24 + d.val, by omega⟩) ny nx := by
  rw [gather_at, v176_at]
  refine Spec.sample_eq _ X Y nx ny hX hY _ hw _ ?_
  dsimp only
  congr 3
  pointwise

/-- The flat index of the lower row and lower column, clipped to the image. -/
theorem v219_at (h : Fin 4) (t : Fin 7) (k : Fin 9) (y x : Fin 64) :
    (res_main_v219 V : IVec S4x7x9x64x64 32) (ix5 h t k y x) = IntOp.addi (IntOp.muli (FloatOps.fptosi (F := Ideal) (φ := .f32) 32
        (min (FloatOps.sitofp (F := Ideal) FTy.f32 63#32) (max (FloatOps.sitofp (F := Ideal) FTy.f32 0#32) ((res_main_v190 V : FVec Ideal S4x7x9x64x64 .f32) (ix5 h t k y x))))) 64#32)
      (FloatOps.fptosi (F := Ideal) (φ := .f32) 32
        (min (FloatOps.sitofp (F := Ideal) FTy.f32 63#32) (max (FloatOps.sitofp (F := Ideal) FTy.f32 0#32) ((res_main_v189 V : FVec Ideal S4x7x9x64x64 .f32) (ix5 h t k y x))))) := by
  unfold res_main_v219
  clean_types
  pointwise

/-- The flat index of the lower row and upper column, clipped to the image. -/
theorem v252_at (h : Fin 4) (t : Fin 7) (k : Fin 9) (y x : Fin 64) :
    (res_main_v252 V : IVec S4x7x9x64x64 32) (ix5 h t k y x) = IntOp.addi (IntOp.muli (FloatOps.fptosi (F := Ideal) (φ := .f32) 32
        (min (FloatOps.sitofp (F := Ideal) FTy.f32 63#32) (max (FloatOps.sitofp (F := Ideal) FTy.f32 0#32) ((res_main_v190 V : FVec Ideal S4x7x9x64x64 .f32) (ix5 h t k y x))))) 64#32)
      (FloatOps.fptosi (F := Ideal) (φ := .f32) 32
        (min (FloatOps.sitofp (F := Ideal) FTy.f32 63#32) (max (FloatOps.sitofp (F := Ideal) FTy.f32 0#32) ((res_main_v192 V : FVec Ideal S4x7x9x64x64 .f32) (ix5 h t k y x))))) := by
  unfold res_main_v252
  clean_types
  pointwise

/-- The flat index of the upper row and lower column, clipped to the image. -/
theorem v286_at (h : Fin 4) (t : Fin 7) (k : Fin 9) (y x : Fin 64) :
    (res_main_v286 V : IVec S4x7x9x64x64 32) (ix5 h t k y x) = IntOp.addi (IntOp.muli (FloatOps.fptosi (F := Ideal) (φ := .f32) 32
        (min (FloatOps.sitofp (F := Ideal) FTy.f32 63#32) (max (FloatOps.sitofp (F := Ideal) FTy.f32 0#32) ((res_main_v194 V : FVec Ideal S4x7x9x64x64 .f32) (ix5 h t k y x))))) 64#32)
      (FloatOps.fptosi (F := Ideal) (φ := .f32) 32
        (min (FloatOps.sitofp (F := Ideal) FTy.f32 63#32) (max (FloatOps.sitofp (F := Ideal) FTy.f32 0#32) ((res_main_v189 V : FVec Ideal S4x7x9x64x64 .f32) (ix5 h t k y x))))) := by
  unfold res_main_v286
  clean_types
  pointwise

/-- The flat index of the upper row and upper column, clipped to the image. -/
theorem v320_at (h : Fin 4) (t : Fin 7) (k : Fin 9) (y x : Fin 64) :
    (res_main_v320 V : IVec S4x7x9x64x64 32) (ix5 h t k y x) = IntOp.addi (IntOp.muli (FloatOps.fptosi (F := Ideal) (φ := .f32) 32
        (min (FloatOps.sitofp (F := Ideal) FTy.f32 63#32) (max (FloatOps.sitofp (F := Ideal) FTy.f32 0#32) ((res_main_v194 V : FVec Ideal S4x7x9x64x64 .f32) (ix5 h t k y x))))) 64#32)
      (FloatOps.fptosi (F := Ideal) (φ := .f32) 32
        (min (FloatOps.sitofp (F := Ideal) FTy.f32 63#32) (max (FloatOps.sitofp (F := Ideal) FTy.f32 0#32) ((res_main_v192 V : FVec Ideal S4x7x9x64x64 .f32) (ix5 h t k y x))))) := by
  unfold res_main_v320
  clean_types
  pointwise

/-- The first three of the four weighted corners of a sample. -/
theorem v301_at (h : Fin 4) (t : Fin 7) (k : Fin 9) (d : Fin 24) (y x : Fin 64) :
    (res_main_v301 V : FVec Ideal S4x7x24x9x64x64 .f32) (ix6 h t d k y x)
      = Spec.pick2 (Spec.vproj (aX V) (aVW V) (aVB V) t ⟨h.val * 24 + d.val, by omega⟩) ⌊sY V h t k y x⌋ ⌊sX V h t k y x⌋ *
          (((1 - (sY V h t k y x - ⌊sY V h t k y x⌋) : ℝ) : EReal) * ((1 - (sX V h t k y x - ⌊sX V h t k y x⌋) : ℝ) : EReal)) +
        Spec.pick2 (Spec.vproj (aX V) (aVW V) (aVB V) t ⟨h.val * 24 + d.val, by omega⟩) ⌊sY V h t k y x⌋ (⌊sX V h t k y x⌋ + 1) *
          (((1 - (sY V h t k y x - ⌊sY V h t k y x⌋) : ℝ) : EReal) * ((sX V h t k y x - ⌊sX V h t k y x⌋ : ℝ) : EReal)) +
        Spec.pick2 (Spec.vproj (aX V) (aVW V) (aVB V) t ⟨h.val * 24 + d.val, by omega⟩) (⌊sY V h t k y x⌋ + 1) ⌊sX V h t k y x⌋ *
          (((sY V h t k y x - ⌊sY V h t k y x⌋ : ℝ) : EReal) * ((1 - (sX V h t k y x - ⌊sX V h t k y x⌋) : ℝ) : EReal)) := by
  unfold res_main_v301
  clean_types
  pointwise
  rw [sample_at V (res_main_v219 V) _ _ _ _ h t d k y x (v189_at V h t k y x) (v190_at V h t k y x) (v219_at V h t k y x),
    sample_at V (res_main_v252 V) _ _ _ _ h t d k y x (v192_at V h t k y x) (v190_at V h t k y x) (v252_at V h t k y x),
    sample_at V (res_main_v286 V) _ _ _ _ h t d k y x (v189_at V h t k y x) (v194_at V h t k y x) (v286_at V h t k y x),
    v195_at, v197_at, v198_at, v200_at]

end Cert.Ref
-- ==== Proof.RefC.lean ====
/- The reference's printed terms read at an index: each is the plain formula of Spec. -/
module

public import proofs.«01_k».proof.Proof.Gen.ReferenceIdeal.Run
public import proofs.«01_k».proof.Proof.RefB
public import Idealize.ShloMosaic.Lib.Pointwise
public import Idealize.ShloMosaic.Lib.Tactic.CleanTypes

@[expose] public section

set_option maxRecDepth 16384

noncomputable section

namespace Cert.Ref

open Idealize.ShloMosaic Idealize.SL.Sem Cert.ReferenceIdeal Cert.ReferenceIdeal.Gen Cert.ReferenceIdeal.Value

variable (V : Valuation τ sig (Elt Ideal))

/-- The reference's result at an index, in the arguments. -/
def refResult (o : Fin 96) (y x : Fin 64) : EReal :=
  Spec.result (aQ V) (fun h d => Spec.deform (fun j => Spec.off (aQ V) (aOW1 V) (aOB1 V) (aOW2 V) (aOB2 V) j y x)
    (fun h j => Spec.attn (aQ V) (aAW1 V) (aAB1 V) (aAW2 V) (aAB2 V) h j y x) (Spec.vproj (aX V) (aVW V) (aVB V)) h d y x)
    (aUW V) (aUB V) o y x

set_option maxHeartbeats 4000000 in
/-- From any memory with zero counters the reference terminates with the mathematics' result in its arguments, and its
    arguments as launched. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (o : Fin 96) (y x : Fin 64), (r.2.mem ((c.tc : Thread nD τ).loc main_v349) : FVec Ideal S1x96x64x64 .f32) (ix4 0 o y x)
        = refResult (StableHlo.launchContents m c) o y x)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono ?_ (run m ρ)
  intro r h c
  refine ⟨fun o y x => ?_, (h c).2⟩
  rw [(h c).1]
  clear h
  generalize StableHlo.launchContents m c = V
  clean_types
  pointwise
  unfold refResult Spec.result Spec.deform
  refine congrArg₂ (· + ·) (v0_at V o y x) (congrArg (· + aUB V o) (Finset.sum_congr rfl fun c _ => congrArg (aUW V o c * ·) ?_))
  refine Eq.trans (Finset.sum_congr rfl fun j _ => congrArg₂ (· * ·)
    (congrArg₂ (· + ·) (v301_at V _ _ _ _ _ _)
      (congrArg₂ (· * ·)
        (sample_at V (res_main_v320 V) _ _ _ _ _ _ _ _ _ _ (v192_at V _ _ _ _ _) (v194_at V _ _ _ _ _) (v320_at V _ _ _ _ _))
        (congrArg₂ (· * ·) (v198_at V _ _ _ _ _) (v195_at V _ _ _ _ _))))
    (congrArg₂ Ideal.div (v138_at V _ _ _ _) (Finset.sum_congr rfl fun _ _ => v138_at V _ _ _ _))) ?_
  rw [Spec.sum_63]
  refine Finset.sum_congr rfl fun t _ => Finset.sum_congr rfl fun k _ => ?_
  have e1 : (⟨(t.val * 9 + k.val) / 9, by omega⟩ : Fin 7) = t := Fin.ext (by simp only; omega)
  have e2 : (⟨(t.val * 9 + k.val) % 9, by omega⟩ : Fin 9) = k := Fin.ext (by simp only; omega)
  simp only [e1, e2]
  unfold Spec.bil Spec.attn Spec.soft
  simp only [EReal.coe_mul]
  rfl

end Cert.Ref
-- ==== Proof.Host.lean ====
/- The host's layout changes around the launches, read at an index. -/
module

public import proofs.«01_k».proof.Proof.Gen.KernelIdeal.Frame
public import proofs.«01_k».proof.Proof.Spec
public import Idealize.ShloMosaic.Lib.StableHlo.ReadAt
public import Idealize.ShloMosaic.Lib.Pointwise
public import Idealize.ShloMosaic.Lib.Tactic.CleanTypes

@[expose] public section

set_option maxRecDepth 16384

noncomputable section

namespace Cert.Host

open Idealize.ShloMosaic Idealize.SL.Sem Cert.KernelIdeal Cert.KernelIdeal.Gen

variable (W : Valuation τ sig (Elt Ideal))

/-- The query with its channels last. -/
theorem v1_at (y x : Fin 64) (c : Fin 96) :
    ((StableHlo.after hostOps0 W (Proc.devRef .tc main_v1) : FVec Ideal S64x64x96 .f32) (ix3 y x c) : EReal)
      = (W (Proc.devRef .tc main_arg0) : FVec Ideal S1x96x64x64 .f32) (ix4 0 c y x) := by
  after_reads_at

/-- The padding constant is the zero word. -/
theorem c_at (j : S_.Idx) : ((StableHlo.after hostOps0 W (Proc.devRef .tc main_c) : IVec S_ 32) j : BitVec 32) = 0#32 := by
  after_reads_at

/-- The padded query. -/
theorem v2_at (i j : Fin 66) (c : Fin 96) (hc : ∀ j, ((W (Proc.devRef .tc main_c) : IVec S_ 32) j : BitVec 32) = 0#32) :
    ((StableHlo.after hostOps0_1 W (Proc.devRef .tc main_v2) : FVec Ideal S66x66x96 .f32) (ix3 i j c) : EReal)
      = Spec.qp (fun c y x => (W (Proc.devRef .tc main_v1) : FVec Ideal S64x64x96 .f32) (ix3 y x c)) c i j := by
  after_reads_at
  unfold Spec.qp
  split_ifs with h
  · rfl
  · rw [hc]
    show (((0#32 : BitVec 32).toInt : ℝ) : EReal) = 0
    simp

/-- The flattened query. -/
theorem v3_at (p : Fin 4096) (c : Fin 96) :
    ((StableHlo.after hostOps0_2 W (Proc.devRef .tc main_v3) : FVec Ideal S4096x96 .f32) (ix2 p c) : EReal)
      = (W (Proc.devRef .tc main_v1) : FVec Ideal S64x64x96 .f32) (ix3 ⟨p.val / 64, by omega⟩ ⟨p.val % 64, by omega⟩ c) := by
  after_reads_at

/-- The taps of the offsets' convolution, transposed. -/
theorem v5_at (j : Fin 9) (x o : Fin 96) :
    ((StableHlo.after hostOps0_2 W (Proc.devRef .tc main_v5) : FVec Ideal S9x96x96 .f32) (ix3 j x o) : EReal)
      = (W (Proc.devRef .tc main_arg2) : FVec Ideal S96x96x3x3 .f32) (ix4 o x ⟨j.val / 3, by omega⟩ ⟨j.val % 3, by omega⟩) := by
  after_reads_at

/-- The taps of the weights' convolution, transposed. -/
theorem v7_at (j : Fin 9) (x o : Fin 96) :
    ((StableHlo.after hostOps0_2 W (Proc.devRef .tc main_v7) : FVec Ideal S9x96x96 .f32) (ix3 j x o) : EReal)
      = (W (Proc.devRef .tc main_arg6) : FVec Ideal S96x96x3x3 .f32) (ix4 o x ⟨j.val / 3, by omega⟩ ⟨j.val % 3, by omega⟩) := by
  after_reads_at

/-- The offsets' product, transposed. -/
theorem v9_at (x : Fin 96) (o : Fin 504) :
    ((StableHlo.after hostOps0_2 W (Proc.devRef .tc main_v9) : FVec Ideal S96x504 .f32) (ix2 x o) : EReal)
      = (W (Proc.devRef .tc main_arg4) : FVec Ideal S504x96x1x1 .f32) (ix4 o x 0 0) := by
  after_reads_at

/-- The weights' product, transposed. -/
theorem v11_at (x : Fin 96) (o : Fin 252) :
    ((StableHlo.after hostOps0_2 W (Proc.devRef .tc main_v11) : FVec Ideal S96x252 .f32) (ix2 x o) : EReal)
      = (W (Proc.devRef .tc main_arg8) : FVec Ideal S252x96x1x1 .f32) (ix4 o x 0 0) := by
  after_reads_at

/-- The bias of the offsets' convolution, as a row. -/
theorem v12_at (o : Fin 96) :
    ((StableHlo.after hostOps0_2 W (Proc.devRef .tc main_v12) : FVec Ideal S1x96 .f32) (ix2 0 o) : EReal)
      = (W (Proc.devRef .tc main_arg3) : FVec Ideal S96 .f32) (ix1 o) := by
  after_reads_at

/-- The bias of the offsets' product, as a row. -/
theorem v13_at (o : Fin 504) :
    ((StableHlo.after hostOps0_2 W (Proc.devRef .tc main_v13) : FVec Ideal S1x504 .f32) (ix2 0 o) : EReal)
      = (W (Proc.devRef .tc main_arg5) : FVec Ideal S504 .f32) (ix1 o) := by
  after_reads_at

/-- The bias of the weights' convolution, as a row. -/
theorem v14_at (o : Fin 96) :
    ((StableHlo.after hostOps0_2 W (Proc.devRef .tc main_v14) : FVec Ideal S1x96 .f32) (ix2 0 o) : EReal)
      = (W (Proc.devRef .tc main_arg7) : FVec Ideal S96 .f32) (ix1 o) := by
  after_reads_at

/-- The bias of the weights' product, as a row. -/
theorem v15_at (o : Fin 252) :
    ((StableHlo.after hostOps0_2 W (Proc.devRef .tc main_v15) : FVec Ideal S1x252 .f32) (ix2 0 o) : EReal)
      = (W (Proc.devRef .tc main_arg9) : FVec Ideal S252 .f32) (ix1 o) := by
  after_reads_at

/-- The offsets regrouped by frame. -/
theorem v19_at (t : Fin 7) (p : Fin 4096) (q : Fin 72) :
    ((StableHlo.after hostOps1 W (Proc.devRef .tc main_v19) : FVec Ideal S7x4096x72 .f32) (ix3 t p q) : EReal)
      = (W (Proc.devRef .tc main_v16_0) : FVec Ideal S4096x504 .f32) (ix2 p ⟨(q.val / 18 * 7 + t.val) * 18 + q.val % 18, by omega⟩) := by
  after_reads_at
  exact congrArg (fun k => (W (Proc.devRef .tc main_v16_0) : FVec Ideal S4096x504 .f32) (ix2 p k)) (Fin.ext (by simp only; omega))

/-- The weights regrouped by frame. -/
theorem v22_at (t : Fin 7) (p : Fin 4096) (q : Fin 36) :
    ((StableHlo.after hostOps1 W (Proc.devRef .tc main_v22) : FVec Ideal S7x4096x36 .f32) (ix3 t p q) : EReal)
      = (W (Proc.devRef .tc main_v16_1) : FVec Ideal S4096x252 .f32) (ix2 p ⟨(q.val / 9 * 7 + t.val) * 9 + q.val % 9, by omega⟩) := by
  after_reads_at
  exact congrArg (fun k => (W (Proc.devRef .tc main_v16_1) : FVec Ideal S4096x252 .f32) (ix2 p k)) (Fin.ext (by simp only; omega))

/-- The context frames flattened, channels last. -/
theorem v25_at (i : Fin 28672) (c : Fin 96) :
    ((StableHlo.after hostOps1 W (Proc.devRef .tc main_v25) : FVec Ideal S28672x96 .f32) (ix2 i c) : EReal)
      = (W (Proc.devRef .tc main_arg1) : FVec Ideal S7x1x96x64x64 .f32) (ix5 ⟨i.val / 4096, by omega⟩ 0 c ⟨i.val / 64 % 64, by omega⟩ ⟨i.val % 64, by omega⟩) := by
  after_reads_at

/-- The value projection's matrix, transposed. -/
theorem v27_at (x o : Fin 96) :
    ((StableHlo.after hostOps1 W (Proc.devRef .tc main_v27) : FVec Ideal S96x96 .f32) (ix2 x o) : EReal)
      = (W (Proc.devRef .tc main_arg10) : FVec Ideal S96x96x1x1 .f32) (ix4 o x 0 0) := by
  after_reads_at

/-- The value projection's bias, as a row. -/
theorem v28_at (o : Fin 96) :
    ((StableHlo.after hostOps1 W (Proc.devRef .tc main_v28) : FVec Ideal S1x96 .f32) (ix2 0 o) : EReal)
      = (W (Proc.devRef .tc main_arg11) : FVec Ideal S96 .f32) (ix1 o) := by
  after_reads_at

/-- The projected values regrouped by frame, head and row. -/
theorem v32_at (t : Fin 7) (h : Fin 4) (y : Fin 64) (j : Fin 1536) :
    ((StableHlo.after hostOps2 W (Proc.devRef .tc main_v32) : FVec Ideal S7x4x64x1536 .f32) (ix4 t h y j) : EReal)
      = (W (Proc.devRef .tc main_v29) : FVec Ideal S28672x96 .f32) (ix2 ⟨t.val * 4096 + y.val * 64 + j.val % 64, by omega⟩ ⟨h.val * 24 + j.val / 64, by omega⟩) := by
  after_reads_at

/-- The output projection's matrix, transposed. -/
theorem v34_at (x o : Fin 96) :
    ((StableHlo.after hostOps2 W (Proc.devRef .tc main_v34) : FVec Ideal S96x96 .f32) (ix2 x o) : EReal)
      = (W (Proc.devRef .tc main_arg12) : FVec Ideal S96x96x1x1 .f32) (ix4 o x 0 0) := by
  after_reads_at

/-- The output projection's bias, as a row. -/
theorem v35_at (o : Fin 96) :
    ((StableHlo.after hostOps2 W (Proc.devRef .tc main_v35) : FVec Ideal S1x96 .f32) (ix2 0 o) : EReal)
      = (W (Proc.devRef .tc main_arg13) : FVec Ideal S96 .f32) (ix1 o) := by
  after_reads_at

/-- The result with its channels first. -/
theorem v39_at (o : Fin 96) (y x : Fin 64) :
    ((StableHlo.after hostOps3 W (Proc.devRef .tc main_v39) : FVec Ideal S1x96x64x64 .f32) (ix4 0 o y x) : EReal)
      = (W (Proc.devRef .tc main_v36_1) : FVec Ideal S4096x96 .f32) (ix2 ⟨y.val * 64 + x.val, by omega⟩ o) := by
  after_reads_at

end Cert.Host
-- ==== Proof.Dense.lean ====
/- The first launch: the sampling offsets and the attention weights, by position and sample. -/
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Dense

open Idealize.ShloMosaic Idealize.SL.Sem Cert.KernelIdeal Cert.KernelIdeal.Gen

variable (V : (c : Dev nD) → (b : Ref sig .tc) → Buf (Elt Ideal) ((c.tc : Thread nD τ).loc b))

/-- Every window of the launch is the whole array: its index map is zero. -/
theorem idx (t : Fin cfg0.N) : win0_0.index t = ![0, 0, 0] ∧ win0_1.index t = ![0, 0, 0] ∧ win0_2.index t = ![0, 0] ∧ win0_3.index t = ![0, 0]
    ∧ win0_4.index t = ![0, 0] ∧ win0_5.index t = ![0, 0, 0] ∧ win0_6.index t = ![0, 0] ∧ win0_7.index t = ![0, 0] ∧ win0_8.index t = ![0, 0]
    ∧ win0_9.index t = ![0, 0] ∧ win0_10.index t = ![0, 0] := by
  revert t
  decide +kernel

/-- The block of the offsets is the whole array. -/
theorem emb9 (t : Fin cfg0.N) (j : S4096x504.Idx) : (((View.whole main_v16_0).slice (win0_9.rect t)).emb j : S4096x504.Idx) = j := by
  blk_ext [iblk0, idx t]

/-- The block of the weights is the whole array. -/
theorem emb10 (t : Fin cfg0.N) (j : S4096x252.Idx) : (((View.whole main_v16_1).slice (win0_10.rect t)).emb j : S4096x252.Idx) = j := by
  blk_ext [iblk0, idx t]

/-- One tap of a convolution over the padded query, by position and channel. -/
def tap (Q : S66x66x96.Idx → EReal) (W : S9x96x96.Idx → EReal) (dy dx : Fin 3) (j : Fin 9) (p : Fin 4096) (o : Fin 96) : EReal :=
  ∑ x : Fin 96, Q (ix3 ⟨dy.val + p.val / 64, by omega⟩ ⟨dx.val + p.val % 64, by omega⟩ x) * W (ix3 j x o)

/-- A convolution as the launch computes it. -/
def cv (Q : S66x66x96.Idx → EReal) (W : S9x96x96.Idx → EReal) (B : S1x96.Idx → EReal) (p : Fin 4096) (o : Fin 96) : EReal :=
  tap Q W 0 0 0 p o + tap Q W 0 1 1 p o + tap Q W 0 2 2 p o + tap Q W 1 0 3 p o + tap Q W 1 1 4 p o + tap Q W 1 2 5 p o
    + tap Q W 2 0 6 p o + tap Q W 2 1 7 p o + tap Q W 2 2 8 p o + B (ix2 0 o)

/-- The activated convolution times the second weights, plus the bias. -/
def lg {n : ℕ} (Q : S66x66x96.Idx → EReal) (W : S9x96x96.Idx → EReal) (B : S1x96.Idx → EReal) (W2 : Fin 96 → Fin n → EReal)
    (B2 : Fin n → EReal) (p : Fin 4096) (o : Fin n) : EReal :=
  (∑ x : Fin 96, Spec.gelu (cv Q W B p x) * W2 x o) + B2 o

/-- The stored offsets at an index. -/
theorem out9 (Q : Vec Ideal S66x66x96 .f32) (W : Vec Ideal S9x96x96 .f32) (B : Vec Ideal S1x96 .f32) (W2 : Vec Ideal S96x504 .f32) (B2 : Vec Ideal S1x504 .f32)
   (p : Fin 4096) (o : Fin 504) : (k0_pay5
      (k0_pay3
        (k0_pay2 (View.ld Q r0_0) (View.ld W r0_1) (View.ld Q r0_2)
          (View.ld W r0_3) (View.ld Q r0_4) (View.ld W r0_5)
          (View.ld Q r0_6) (View.ld W r0_7))
        (View.ld Q r0_8) (View.ld W r0_9) (View.ld Q r0_10)
        (View.ld W r0_11) (View.ld Q r0_12) (View.ld W r0_13)
        (View.ld Q r0_14) (View.ld W r0_15))
      (k0_pay4 (View.ld Q r0_16)) (View.ld W r0_17) B W2 B2 (ix2 p o) : EReal)
      = Ideal.tanh (lg Q W B (fun x o => (W2 : S96x504.Idx → EReal) (ix2 x o)) (fun o => (B2 : S1x504.Idx → EReal) (ix2 0 o)) p o)
        * Ideal.ofBits .f32 0x42000000#32 := by
  unfold k0_pay5 k0_pay3 k0_pay2 k0_pay4
  clean_types
  pointwise
  unfold lg cv tap Spec.gelu
  simp only [Fin.val_zero, zero_add]
  rfl

/-- The activated convolution of the weights at an index. -/
theorem out15 (x0 : Vec Ideal S66x66x96 .f32) (x1 : Vec Ideal S9x96x96 .f32) (x2 : Vec Ideal S1x96 .f32) (x3 : Vec Ideal S96x504 .f32) (x4 : Vec Ideal S1x504 .f32) (x5 : Vec Ideal S9x96x96 .f32) (x6 : Vec Ideal S1x96 .f32) (x7 : Vec Ideal S96x252 .f32) (x8 : Vec Ideal S1x252 .f32)
   (p : Fin 4096) (o : Fin 96) : (k0_pay15 x0 x1 x2 x3 x4 x5 x6 x7 x8 (ix2 p o) : EReal) = cv x0 x5 x6 p o := by
  unfold k0_pay15
  unfold_payloads
  clean_types
  pointwise
  unfold cv tap
  simp only [Fin.val_zero, zero_add]
  rfl

/-- The attention logits of the launch, by position and sample. -/
theorem out10 (x0 : Vec Ideal S66x66x96 .f32) (x1 : Vec Ideal S9x96x96 .f32) (x2 : Vec Ideal S1x96 .f32) (x3 : Vec Ideal S96x504 .f32) (x4 : Vec Ideal S1x504 .f32) (x5 : Vec Ideal S9x96x96 .f32) (x6 : Vec Ideal S1x96 .f32) (x7 : Vec Ideal S96x252 .f32) (x8 : Vec Ideal S1x252 .f32)
   (p : Fin 4096) (o : Fin 252) : (k0_pay10 (k0_pay15 x0 x1 x2 x3 x4 x5 x6 x7 x8) (FloatOps.ofBits FTy.f32 1056964608#32) x7 x8 (ix2 p o) : EReal)
     = lg x0 x5 x6 (fun x o => (x7 : S96x252.Idx → EReal) (ix2 x o)) (fun o => (x8 : S1x252.Idx → EReal) (ix2 0 o)) p o := by
  unfold k0_pay10
  clean_types
  pointwise
  simp only [out15]
  unfold lg Spec.gelu
  rfl

/-- The attention weights of head 0: the softmax of its logits. -/
theorem out11 (v : Vec Ideal S4096x96 .f32) (b : Ideal .f32) (x7 : Vec Ideal S96x252 .f32) (x8 : Vec Ideal S1x252 .f32) (p : Fin 4096) (o : Fin 63) :
    (k0_pay11 v b x7 x8 (ix2 p o) : EReal) = Spec.soft (fun j => (k0_pay10 v b x7 x8 : S4096x252.Idx → EReal) (ix2 p ⟨j.val, by omega⟩)) o := by
  unfold k0_pay11
  clean_types
  pointwise
  rw [Spec.ofBits_neg_inf]
  rfl

/-- The attention weights of head 1: the softmax of its logits. -/
theorem out12 (v : Vec Ideal S4096x96 .f32) (b : Ideal .f32) (x7 : Vec Ideal S96x252 .f32) (x8 : Vec Ideal S1x252 .f32) (p : Fin 4096) (o : Fin 63) :
    (k0_pay12 v b x7 x8 (ix2 p o) : EReal) = Spec.soft (fun j => (k0_pay10 v b x7 x8 : S4096x252.Idx → EReal) (ix2 p ⟨1 * 63 + j.val, by omega⟩)) o := by
  unfold k0_pay12
  clean_types
  pointwise
  rw [Spec.ofBits_neg_inf]
  rfl

/-- The attention weights of head 2: the softmax of its logits. -/
theorem out13 (v : Vec Ideal S4096x96 .f32) (b : Ideal .f32) (x7 : Vec Ideal S96x252 .f32) (x8 : Vec Ideal S1x252 .f32) (p : Fin 4096) (o : Fin 63) :
    (k0_pay13 v b x7 x8 (ix2 p o) : EReal) = Spec.soft (fun j => (k0_pay10 v b x7 x8 : S4096x252.Idx → EReal) (ix2 p ⟨2 * 63 + j.val, by omega⟩)) o := by
  unfold k0_pay13
  clean_types
  pointwise
  rw [Spec.ofBits_neg_inf]
  rfl

/-- The softmaxes of the four heads side by side, read at a head's sample. -/
theorem out1 (v : Vec Ideal S4096x96 .f32) (b : Ideal .f32) (x7 : Vec Ideal S96x252 .f32) (x8 : Vec Ideal S1x252 .f32) (p : Fin 4096) (h : Fin 4) (j : Fin 63) :
    (k0_pay1 (k0_pay11 v b x7 x8) (k0_pay12 v b x7 x8) (k0_pay13 v b x7 x8) (k0_pay14 v b x7 x8) (ix2 p ⟨h.val * 63 + j.val, by omega⟩) : EReal)
      = Spec.soft (fun j => (k0_pay10 v b x7 x8 : S4096x252.Idx → EReal) (ix2 p ⟨h.val * 63 + j.val, by omega⟩)) j := by
  unfold k0_pay1 k0_pay14
  clean_types
  pointwise
  obtain ⟨hv, hh⟩ := h
  have h0 : hv = 0 ∨ hv = 1 ∨ hv = 2 ∨ hv = 3 := by omega
  rcases h0 with rfl | rfl | rfl | rfl
  · rw [dif_pos (show 0 * 63 + j.val < 63 by omega), out11]
    simp only [Nat.zero_mul, zero_add]
  · rw [dif_neg (show ¬ 1 * 63 + j.val < 63 by omega), dif_pos (show 1 * 63 + j.val - 63 < 63 by omega), out12,
      show (⟨1 * 63 + j.val - 63, by omega⟩ : Fin 63) = j from Fin.ext (by simp only; omega)]
  · rw [dif_neg (show ¬ 2 * 63 + j.val < 63 by omega), dif_neg (show ¬ 2 * 63 + j.val - 63 < 63 by omega),
      dif_pos (show 2 * 63 + j.val - 63 - 63 < 63 by omega), out13,
      show (⟨2 * 63 + j.val - 63 - 63, by omega⟩ : Fin 63) = j from Fin.ext (by simp only; omega)]
  · rw [dif_neg (show ¬ 3 * 63 + j.val < 63 by omega), dif_neg (show ¬ 3 * 63 + j.val - 63 < 63 by omega),
      dif_neg (show ¬ 3 * 63 + j.val - 63 - 63 < 63 by omega)]
    have e : 3 * 63 + j.val - 63 - 63 - 63 = j.val := by omega
    simp only [e]
    simp only [Spec.ofBits_neg_inf]
    rfl

/-- The block of operand 0 is the whole operand. -/
theorem blk_0 (c : Dev nD) (t : Fin cfg0.N) : (iblk0 V c 0 t : S66x66x96.Idx → EReal) = V c main_v2 := funext fun j => by
  blk_ext [iblk0, idx t]
/-- The block of operand 1 is the whole operand. -/
theorem blk_1 (c : Dev nD) (t : Fin cfg0.N) : (iblk0 V c 1 t : S9x96x96.Idx → EReal) = V c main_v5 := funext fun j => by
  blk_ext [iblk0, idx t]
/-- The block of operand 2 is the whole operand. -/
theorem blk_2 (c : Dev nD) (t : Fin cfg0.N) : (iblk0 V c 2 t : S1x96.Idx → EReal) = V c main_v12 := funext fun j => by
  blk_ext [iblk0, idx t]
/-- The block of operand 3 is the whole operand. -/
theorem blk_3 (c : Dev nD) (t : Fin cfg0.N) : (iblk0 V c 3 t : S96x504.Idx → EReal) = V c main_v9 := funext fun j => by
  blk_ext [iblk0, idx t]
/-- The block of operand 4 is the whole operand. -/
theorem blk_4 (c : Dev nD) (t : Fin cfg0.N) : (iblk0 V c 4 t : S1x504.Idx → EReal) = V c main_v13 := funext fun j => by
  blk_ext [iblk0, idx t]
/-- The block of operand 5 is the whole operand. -/
theorem blk_5 (c : Dev nD) (t : Fin cfg0.N) : (iblk0 V c 5 t : S9x96x96.Idx → EReal) = V c main_v7 := funext fun j => by
  blk_ext [iblk0, idx t]
/-- The block of operand 6 is the whole operand. -/
theorem blk_6 (c : Dev nD) (t : Fin cfg0.N) : (iblk0 V c 6 t : S1x96.Idx → EReal) = V c main_v14 := funext fun j => by
  blk_ext [iblk0, idx t]
/-- The block of operand 7 is the whole operand. -/
theorem blk_7 (c : Dev nD) (t : Fin cfg0.N) : (iblk0 V c 7 t : S96x252.Idx → EReal) = V c main_v11 := funext fun j => by
  blk_ext [iblk0, idx t]
/-- The block of operand 8 is the whole operand. -/
theorem blk_8 (c : Dev nD) (t : Fin cfg0.N) : (iblk0 V c 8 t : S1x252.Idx → EReal) = V c main_v15 := funext fun j => by
  blk_ext [iblk0, idx t]

/-- The sampling offsets that the launch leaves, from its operands. -/
def G9 (Q : S66x66x96.Idx → EReal) (W : S9x96x96.Idx → EReal) (B : S1x96.Idx → EReal) (W2 : S96x504.Idx → EReal) (B2 : S1x504.Idx → EReal) :
    FVec Ideal S4096x504 .f32 := fun i =>
  Ideal.tanh (lg Q W B (fun x o => W2 (ix2 x o)) (fun o => B2 (ix2 0 o)) (i 0) (i 1)) * Ideal.ofBits .f32 0x42000000#32

/-- The launch leaves the sampling offsets in its first result. -/
theorem arr9 (c : Dev nD) : (dat0 V c).arrAt 9 cfg0.N = G9 (V c main_v2) (V c main_v5) (V c main_v12) (V c main_v9) (V c main_v13) := by
  refine (dat0 V c).arrAt_eq_of_covers 9 _ (by decide +kernel) fun t hf y => ?_
  blk_simp
  rw [after0_9]
  frame_out
  rw [emb9]
  idx_vars y
  rw [out9]
  simp only [blk_0, blk_1, blk_2, blk_3, blk_4]
  rfl

/-- The attention weights that the launch leaves, from its operands. -/
def G10 (Q : S66x66x96.Idx → EReal) (W : S9x96x96.Idx → EReal) (B : S1x96.Idx → EReal) (W2 : S96x252.Idx → EReal) (B2 : S1x252.Idx → EReal) :
    FVec Ideal S4096x252 .f32 := fun i =>
  Spec.soft (fun j => lg Q W B (fun x o => W2 (ix2 x o)) (fun o => B2 (ix2 0 o)) (i 0) ⟨(i 1).val / 63 * 63 + j.val, by
    have h1 : (i 1).val < 252 := (i 1).isLt
    have h2 := j.isLt
    omega⟩) ⟨(i 1).val % 63, by omega⟩

/-- The launch leaves the attention weights in its second result. -/
theorem arr10 (c : Dev nD) : (dat0 V c).arrAt 10 cfg0.N = G10 (V c main_v2) (V c main_v7) (V c main_v14) (V c main_v11) (V c main_v15) := by
  refine (dat0 V c).arrAt_eq_of_covers 10 _ (by decide +kernel) fun t hf y => ?_
  blk_simp
  rw [after0_10]
  frame_out
  rw [emb10]
  idx_vars y
  conv_lhs => rw [show y1 = (⟨(⟨y1.val / 63, by omega⟩ : Fin 4).val * 63 + (⟨y1.val % 63, by omega⟩ : Fin 63).val, by simp only; omega⟩ : Fin 252) from Fin.ext (by simp only; omega)]
  rw [out1]
  simp only [out10]
  simp only [blk_0, blk_5, blk_6, blk_7, blk_8]
  rfl

end Cert.Dense
-- ==== Proof.VProj.lean ====
/- The second launch: each value channel is the product of the context with the value weights, plus the bias. -/
module

public import proofs.«01_k».proof.Proof.Gen.KernelIdeal.Frame
public import proofs.«01_k».proof.Proof.Spec
public import Idealize.ShloMosaic.Lib.Pipeline.ValueKit
public import Idealize.ShloMosaic.Lib.Pointwise
public import Idealize.ShloMosaic.Lib.Tactic.CleanTypes

@[expose] public section

set_option maxRecDepth 16384

noncomputable section

namespace Cert.VProj

open Idealize.ShloMosaic Idealize.SL.Sem Cert.KernelIdeal Cert.KernelIdeal.Gen

variable (V : (c : Dev nD) → (b : Ref sig .tc) → Buf (Elt Ideal) ((c.tc : Thread nD τ).loc b))

/-- What the second launch leaves in its result at a position and channel, from the context, the weights and the bias. -/
def G (X : S28672x96.Idx → EReal) (W : S96x96.Idx → EReal) (B : S1x96.Idx → EReal) : FVec Ideal S28672x96 .f32 := fun i =>
  (∑ c : Fin 96, X (ix2 (i 0) c) * W (ix2 c (i 1))) + B (ix2 0 (i 1))

/-- Every window of the launch is the whole array: its index map is zero. -/
theorem idx (t : Fin cfg1.N) : win1_0.index t = ![0, 0] ∧ win1_1.index t = ![0, 0] ∧ win1_2.index t = ![0, 0] ∧ win1_3.index t = ![0, 0] := by
  revert t
  decide +kernel

/-- The block of the context is the whole operand. -/
theorem blk0 (c : Dev nD) (t : Fin cfg1.N) (j : S28672x96.Idx) : (iblk1 V c 0 t : S28672x96.Idx → EReal) j = (V c main_v25 : S28672x96.Idx → EReal) j := by
  blk_ext [iblk1, idx t]

/-- The block of the matrix is the whole operand. -/
theorem blk1 (c : Dev nD) (t : Fin cfg1.N) (j : S96x96.Idx) : (iblk1 V c 1 t : S96x96.Idx → EReal) j = (V c main_v27 : S96x96.Idx → EReal) j := by
  blk_ext [iblk1, idx t]

/-- The block of the bias is the whole operand. -/
theorem blk2 (c : Dev nD) (t : Fin cfg1.N) (j : S1x96.Idx) : (iblk1 V c 2 t : S1x96.Idx → EReal) j = (V c main_v28 : S1x96.Idx → EReal) j := by
  blk_ext [iblk1, idx t]

/-- The block of the result is the whole array. -/
theorem emb3 (t : Fin cfg1.N) (j : S28672x96.Idx) : (((View.whole main_v29).slice (win1_3.rect t)).emb j : S28672x96.Idx) = j := by
  blk_ext [iblk1, idx t]

/-- The launch leaves the value projection in its result. -/
theorem arr (c : Dev nD) : (dat1 V c).arrAt 3 cfg1.N = G (V c main_v25) (V c main_v27) (V c main_v28) := by
  refine (dat1 V c).arrAt_eq_of_covers 3 _ (by decide +kernel) fun t hf y => ?_
  blk_simp
  rw [after1_3]
  frame_out
  rw [emb3]
  unfold_payloads
  clean_types
  idx_vars y
  pointwise
  unfold G
  simp only [blk0, blk1, blk2]
  rfl

end Cert.VProj
-- ==== Proof.Gather.lean ====
/- The third launch: the attended values, accumulated over the frames, and the result. -/
module

public import proofs.«01_k».proof.Proof.Gen.KernelIdeal.Frame
public import proofs.«01_k».proof.Proof.Words
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Gather

open Idealize.ShloMosaic Idealize.SL.Sem Cert.KernelIdeal Cert.KernelIdeal.Gen

variable (V : (c : Dev nD) → (b : Ref sig .tc) → Buf (Elt Ideal) ((c.tc : Thread nD τ).loc b))

/-- One column of the offsets may be cut out. -/
theorem cut72 (c : ℕ) (h : c < 72) : S256x72.Slices ![0, c] S256x1 := by
  revert h; revert c; decide +kernel

/-- One column of the weights may be cut out. -/
theorem cut36 (c : ℕ) (h : c < 36) : S256x36.Slices ![0, c] S256x1 := by
  revert h; revert c; decide +kernel

/-- The pair of row weights at a coordinate: one minus its fraction at its floor, its fraction one above. -/
def rowSel (s : FVec Ideal S256x1 .f32) : FVec Ideal S256x64 .f32 :=
  addf
    (select (cmpi .eq (iota .tc S256x64 32 [1] iota_S256x64_d1_w32) (broadcastTo S256x64 (fptosi 32 (floor s)) broadcasts_S256x1_S256x64))
      (broadcastTo S256x64 (shapeCast S256x1 (subf (broadcast S256x1 (Scalar.ofBits (F := Ideal) .f32 0x3F800000#32)) (subf s (floor s))) shapeCasts_S256x1_S256x1) broadcasts_S256x1_S256x64)
      (broadcast S256x64 (Scalar.ofBits (F := Ideal) .f32 0x00000000#32)))
    (select (cmpi .eq (iota .tc S256x64 32 [1] iota_S256x64_d1_w32) (broadcastTo S256x64 (addi (fptosi 32 (floor s)) (broadcast S256x1 1#32)) broadcasts_S256x1_S256x64))
      (broadcastTo S256x64 (shapeCast S256x1 (subf s (floor s)) shapeCasts_S256x1_S256x1) broadcasts_S256x1_S256x64)
      (broadcast S256x64 (Scalar.ofBits (F := Ideal) .f32 0x00000000#32)))

/-- The pair of column weights at a coordinate, repeated for each of a head's channels. -/
def colSel (s : FVec Ideal S256x1 .f32) : FVec Ideal S256x1536 .f32 :=
  addf
    (select (cmpi .eq k2_pay10 (broadcastTo S256x1536 (fptosi 32 (floor s)) broadcasts_S256x1_S256x1536))
      (broadcastTo S256x1536 (shapeCast S256x1 (subf (broadcast S256x1 (Scalar.ofBits (F := Ideal) .f32 0x3F800000#32)) (subf s (floor s))) shapeCasts_S256x1_S256x1) broadcasts_S256x1_S256x1536)
      (broadcast S256x1536 (Scalar.ofBits (F := Ideal) .f32 0x00000000#32)))
    (select (cmpi .eq k2_pay10 (broadcastTo S256x1536 (addi (fptosi 32 (floor s)) (broadcast S256x1 1#32)) broadcasts_S256x1_S256x1536))
      (broadcastTo S256x1536 (shapeCast S256x1 (subf s (floor s)) shapeCasts_S256x1_S256x1) broadcasts_S256x1_S256x1536)
      (broadcast S256x1536 (Scalar.ofBits (F := Ideal) .f32 0x00000000#32)))

/-- A head's values summed against a tap's weights: rows first, then columns, then each channel's columns. -/
def tap (sx sy aw : FVec Ideal S256x1 .f32) (vh : FVec Ideal S64x1536 .f32) : FVec Ideal S256x24 .f32 :=
  matmul dot_S256x1536_S1536x24_S256x24_1_0_0_1_n_n none
    (mulf (matmul dot_S256x64_S64x1536_S256x1536_1_0_0_1_n_n none (mulf (broadcastTo S256x64 aw broadcasts_S256x1_S256x64) (rowSel sy)) vh
        (constant S256x1536 .f32 0x00000000#32))
      (colSel sx))
    (k2_pay12 k2_pay11) (constant S256x24 .f32 0x00000000#32)

/-- The taps of a head from number `n0` on, the first `k` of them, added in order. -/
def taps (px py : FVec Ideal S256x1 .f32) (o : FVec Ideal S256x72 .f32) (a : FVec Ideal S256x36 .f32) (vh : FVec Ideal S64x1536 .f32) (n0 : ℕ) :
    (k : ℕ) → n0 + k ≤ 36 → FVec Ideal S256x24 .f32
  | 0, _ => broadcast S256x24 (Scalar.ofBits .f32 0x00000000#32)
  | k + 1, h => addf (taps px py o a vh n0 k (by omega))
      (tap (addf px (extractStridedSlice S256x1 ![0, (n0 + k) * 2] o (cut72 _ (by omega))))
        (addf py (extractStridedSlice S256x1 ![0, (n0 + k) * 2 + 1] o (cut72 _ (by omega))))
        (extractStridedSlice S256x1 ![0, n0 + k] a (cut36 _ (by omega))) vh)

/-- A head's values out of the block. -/
def headV (v : Vec Ideal S1x4x64x1536 .f32) (h : ℕ) (hh : ∀ a, (![0, h, 0, 0] : Fin 4 → Nat) a + S1x1x64x1536.size a ≤ S1x4x64x1536.size a) :
    FVec Ideal S64x1536 .f32 :=
  shapeCast S64x1536 (View.ld v (Rect.unit ![0, h, 0, 0] ![1, 1, 64, 1536] hh) : Vec Ideal S1x1x64x1536 .f32) shapeCasts_S1x1x64x1536_S64x1536

/-- What one grid point adds to the running sum: the four heads side by side. -/
def step (g : grid2.Coords) (v : Vec Ideal S1x4x64x1536 .f32) (o : Vec Ideal S1x256x72 .f32) (a : Vec Ideal S1x256x36 .f32) : FVec Ideal S256x96 .f32 :=
  concatenate S256x96 1
    [⟨S256x24, taps (k2_pay5 g) (k2_pay9 (k2_pay6 g) (k2_pay7 g) (k2_pay8 g)) (k2_pay13 o) (k2_pay14 a) (headV v 0 inb_S1x4x64x1536_S1x1x64x1536_0_0_0_0) 0 9 (by omega)⟩,
     ⟨S256x24, taps (k2_pay5 g) (k2_pay9 (k2_pay6 g) (k2_pay7 g) (k2_pay8 g)) (k2_pay13 o) (k2_pay14 a) (headV v 1 inb_S1x4x64x1536_S1x1x64x1536_0_1_0_0) 9 9 (by omega)⟩,
     ⟨S256x24, taps (k2_pay5 g) (k2_pay9 (k2_pay6 g) (k2_pay7 g) (k2_pay8 g)) (k2_pay13 o) (k2_pay14 a) (headV v 2 inb_S1x4x64x1536_S1x1x64x1536_0_2_0_0) 18 9 (by omega)⟩,
     ⟨S256x24, taps (k2_pay5 g) (k2_pay9 (k2_pay6 g) (k2_pay7 g) (k2_pay8 g)) (k2_pay13 o) (k2_pay14 a) (headV v 3 inb_S1x4x64x1536_S1x1x64x1536_0_3_0_0) 27 9 (by omega)⟩]
    concatenates_S256x24_S256x24_S256x24_S256x24_S256x96_d1

end Cert.Gather
-- ==== Proof.GatherTap.lean ====
/- One step of the third launch, read at an index: the nine bilinear samples of each of the four heads. -/
module

public import proofs.«01_k».proof.Proof.Gather
public import Idealize.ShloMosaic.Lib.Tactic.WordOmega

@[expose] public section

set_option maxRecDepth 16384

noncomputable section

namespace Cert.Gather

open Idealize.ShloMosaic Idealize.SL.Sem Cert.KernelIdeal Cert.KernelIdeal.Gen

/-- The remainder of a word by 64, as the program writes it. -/
def remW (w : BitVec 32) : BitVec 32 :=
  Scalar.select
    (IntOp.andi
      (IntOp.xori
        (IntOp.cmpi .slt (IntOp.remsi .vector w (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector w (Scalar.select (Scalar.cmpi .eq 64#32 0#32) 1#32 64#32)) 0#32))
    (IntOp.addi (IntOp.remsi .vector w (Scalar.select (Scalar.cmpi .eq 64#32 0#32) 1#32 64#32))
      (Scalar.select (Scalar.cmpi .eq 64#32 0#32) 1#32 64#32))
    (IntOp.remsi .vector w (Scalar.select (Scalar.cmpi .eq 64#32 0#32) 1#32 64#32))

/-- The quotient of a word by 64 rounded down, as the program writes it. -/
def divW (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- The remainder of a small number by 64. -/
theorem remW_eq (n : Fin 4096) : remW (BitVec.ofNat 32 n.val) = BitVec.ofNat 32 (n.val % 64) := by
  revert n; decide +kernel

/-- The quotient of a small number by 64. -/
theorem divW_eq (n : Fin 4096) : divW (BitVec.ofNat 32 n.val) = BitVec.ofNat 32 (n.val / 64) := by
  revert n; decide +kernel

/-- A small word as a number. -/
theorem sitofp_small (n : ℕ) (h : n < 4096) : (FloatOps.sitofp (F := Ideal) FTy.f32 (BitVec.ofNat 32 n) : EReal) = ((n : ℝ) : EReal) := by
  show (((BitVec.ofNat 32 n).toInt : ℝ) : EReal) = _
  have e : (BitVec.ofNat 32 n).toInt = (n : ℤ) := by word_omega
  rw [e, Int.cast_natCast]

/-- The position a grid point's block starts at, plus the row. -/
theorem posW (g r : ℕ) : IntOp.addi (BitVec.ofNat 32 r) (Scalar.muli (BitVec.ofNat 32 g) 256#32) = BitVec.ofNat 32 (g * 256 + r) := by
  rw [Nat.add_comm, BitVec.ofNat_add, BitVec.ofNat_mul]
  rfl

/-- A column's place in its channel's row. -/
theorem colNum (r : Fin 256) (j : Fin 1536) : (k2_pay10 (ix2 r j) : BitVec 32) = BitVec.ofNat 32 (j.val % 64) := by
  unfold k2_pay10
  clean_types
  pointwise
  exact remW_eq ⟨j.val, by omega⟩

/-- A column's channel, read off its number: one where the channel is `d`. -/
theorem chanSel (j : Fin 1536) (d : Fin 24) :
    ((k2_pay12 k2_pay11 : FVec Ideal S1536x24 .f32) (ix2 j d) : EReal) = if j.val / 64 = d.val then 1 else 0 := by
  unfold k2_pay12 k2_pay11
  clean_types
  pointwise
  show (FloatOps.sitofp (F := Ideal) FTy.f32 (BitVec.setWidth 32 (IntOp.cmpi .eq (divW (BitVec.ofNat 32 j.val)) (BitVec.ofNat 32 d.val))) : EReal) = _
  rw [divW_eq ⟨j.val, by omega⟩]
  have hd := d.isLt
  have hj := j.isLt
  by_cases h : j.val / 64 = d.val
  · rw [if_pos h, h, show IntOp.cmpi .eq (BitVec.ofNat 32 d.val) (BitVec.ofNat 32 d.val) = 1#1 by simp [IntOp.cmpi]]
    exact (sitofp_small 1 (by omega)).trans (by norm_num)
  · have hn : ¬ BitVec.ofNat 32 (j.val / 64) = BitVec.ofNat 32 d.val := by
      rw [← BitVec.toNat_inj, BitVec.toNat_ofNat, BitVec.toNat_ofNat]; omega
    rw [if_neg h, show IntOp.cmpi .eq (BitVec.ofNat 32 (j.val / 64)) (BitVec.ofNat 32 d.val) = 0#1 by
      simp [IntOp.cmpi, beq_eq_false_iff_ne.mpr hn]]
    exact (sitofp_small 0 (by omega)).trans (by norm_num)

/-- The horizontal position of a row of a block. -/
theorem gridX (g : grid2.Coords) (r : Fin 256) :
    ((k2_pay5 g : FVec Ideal S256x1 .f32) (ix2 r 0) : EReal) = (((((g 0).val * 256 + r.val) % 64 : ℕ) : ℝ) : EReal) := by
  have hg : (g 0).val < 16 := (g 0).isLt
  unfold k2_pay5 k2_pay4
  clean_types
  pointwise
  rw [posW]
  exact (congrArg (FloatOps.sitofp (F := Ideal) FTy.f32) (remW_eq ⟨(g 0).val * 256 + r.val, by omega⟩)).trans
    (sitofp_small _ (by simp only; omega))

/-- The vertical position of a row of a block. -/
theorem gridY (g : grid2.Coords) (r : Fin 256) :
    ((k2_pay9 (k2_pay6 g) (k2_pay7 g) (k2_pay8 g) : FVec Ideal S256x1 .f32) (ix2 r 0) : EReal)
      = (((((g 0).val * 256 + r.val) / 64 : ℕ) : ℝ) : EReal) := by
  have hg : (g 0).val < 16 := (g 0).isLt
  unfold k2_pay9 k2_pay8 k2_pay7 k2_pay6 k2_pay4
  clean_types
  pointwise
  rw [posW]
  exact (congrArg (FloatOps.sitofp (F := Ideal) FTy.f32) (divW_eq ⟨(g 0).val * 256 + r.val, by omega⟩)).trans
    (sitofp_small _ (by simp only; omega))

/-- The selected weights of a coordinate at position `y`. -/
theorem pair_eq (y : Fin 64) (x : ℝ) (e : EReal) (he : e = (x : EReal)) :
    (Scalar.select (IntOp.cmpi .eq (BitVec.ofNat 32 y.val) (FloatOps.fptosi (F := Ideal) (φ := .f32) 32 (Ideal.liftRound Int.floor e)))
        (1 - (e - Ideal.liftRound Int.floor e)) 0
      + Scalar.select (IntOp.cmpi .eq (BitVec.ofNat 32 y.val)
          (IntOp.addi (FloatOps.fptosi (F := Ideal) (φ := .f32) 32 (Ideal.liftRound Int.floor e)) 1#32))
        (e - Ideal.liftRound Int.floor e) 0 : EReal)
      = Spec.wt ⌊x⌋ ((1 - (x - ⌊x⌋) : ℝ) : EReal) ((x - ⌊x⌋ : ℝ) : EReal) y := by
  subst he
  rw [show Ideal.liftRound Int.floor ((x : ℝ) : EReal) = (((⌊x⌋ : ℤ) : ℝ) : EReal) from rfl, Spec.sel_eq, Spec.sel_eq_succ,
    ← EReal.coe_sub, ← EReal.coe_one, ← EReal.coe_sub]
  rfl

/-- The row weights of a sample are the pair of weights of its two rows. -/
theorem rowSel_at (s : FVec Ideal S256x1 .f32) (r : Fin 256) (y : Fin 64) (x : ℝ) (hs : (s (ix2 r 0) : EReal) = (x : EReal)) :
    (rowSel s (ix2 r y) : EReal) = Spec.wt ⌊x⌋ ((1 - (x - ⌊x⌋) : ℝ) : EReal) ((x - ⌊x⌋ : ℝ) : EReal) y := by
  unfold rowSel
  clean_types
  pointwise
  exact pair_eq y x _ hs

/-- The column weights of a sample are the pair of weights of its two columns, repeated for every channel. -/
theorem colSel_at (s : FVec Ideal S256x1 .f32) (r : Fin 256) (j : Fin 1536) (x : ℝ) (hs : (s (ix2 r 0) : EReal) = (x : EReal)) :
    (colSel s (ix2 r j) : EReal) = Spec.wt ⌊x⌋ ((1 - (x - ⌊x⌋) : ℝ) : EReal) ((x - ⌊x⌋ : ℝ) : EReal) ⟨j.val % 64, by omega⟩ := by
  unfold colSel
  clean_types
  pointwise
  rw [colNum]
  exact pair_eq ⟨j.val % 64, by omega⟩ x _ hs

/-- A sum over a head's columns that keeps one channel is a sum over that channel's columns. -/
theorem sum_chan (f : Fin 1536 → EReal) (d : Fin 24) :
    ∑ j : Fin 1536, f j * (if j.val / 64 = d.val then 1 else 0) = ∑ x : Fin 64, f ⟨d.val * 64 + x.val, by omega⟩ := by
  have hd : d.val < 24 := d.isLt
  symm
  rw [← Finset.sum_subset (Finset.subset_univ (Finset.univ.image fun x : Fin 64 => (⟨d.val * 64 + x.val, by omega⟩ : Fin 1536)))]
  · rw [Finset.sum_image fun a _ b _ h => Fin.ext (by have := congrArg Fin.val h; simp only at this; omega)]
    refine Finset.sum_congr rfl fun x _ => ?_
    rw [if_pos (by show (d.val * 64 + x.val) / 64 = d.val; omega), mul_one]
  · intro j _ hj
    rw [if_neg, mul_zero]
    intro h
    exact hj (Finset.mem_image.mpr ⟨⟨j.val % 64, by omega⟩, Finset.mem_univ _, Fin.ext (by show d.val * 64 + j.val % 64 = j.val; omega)⟩)

/-- One sample of a head is its bilinear sample times its weight. -/
theorem tap_at (sx sy aw : FVec Ideal S256x1 .f32) (vh : FVec Ideal S64x1536 .f32) (r : Fin 256) (d : Fin 24) (X Y A : ℝ) (hA : 0 ≤ A)
    (hx : (sx (ix2 r 0) : EReal) = (X : EReal)) (hy : (sy (ix2 r 0) : EReal) = (Y : EReal)) (ha : (aw (ix2 r 0) : EReal) = (A : EReal)) :
    (tap sx sy aw vh (ix2 r d) : EReal)
      = Spec.bil (fun y x => vh (ix2 y ⟨d.val * 64 + x.val, by omega⟩)) X Y * (A : EReal) := by
  unfold tap
  clean_types
  pointwise
  simp only [chanSel, colSel_at sx r _ X hx, rowSel_at sy r _ Y hy, ha]
  rw [sum_chan, ← Spec.tap_eq _ _ _ _ hA]
  refine Finset.sum_congr rfl fun x _ => ?_
  congr 2
  exact Fin.ext (by show (d.val * 64 + x.val) % 64 = x.val; omega)

/-- The nine samples of a head, summed. -/
theorem taps_at (px py : FVec Ideal S256x1 .f32) (o : FVec Ideal S256x72 .f32) (a : FVec Ideal S256x36 .f32) (vh : FVec Ideal S64x1536 .f32)
    (r : Fin 256) (d : Fin 24) (X Y : ℝ) (hx : (px (ix2 r 0) : EReal) = (X : EReal)) (hy : (py (ix2 r 0) : EReal) = (Y : EReal))
    (ho : ∀ q : Fin 72, Spec.IsR (o (ix2 r q))) (ha : ∀ q : Fin 36, ∃ A : ℝ, 0 ≤ A ∧ (a (ix2 r q) : EReal) = (A : EReal))
    (n0 k : ℕ) (h : n0 + k ≤ 36) :
    (taps px py o a vh n0 k h (ix2 r d) : EReal)
      = ∑ q : Fin k, Spec.bil (fun y x => vh (ix2 y ⟨d.val * 64 + x.val, by omega⟩))
          (X + (o (ix2 r ⟨(n0 + q.val) * 2, by omega⟩) : EReal).toReal) (Y + (o (ix2 r ⟨(n0 + q.val) * 2 + 1, by omega⟩) : EReal).toReal)
        * (a (ix2 r ⟨n0 + q.val, by omega⟩) : EReal) := by
  induction k with
  | zero =>
    unfold taps
    clean_types
    pointwise
    simp
  | succ k ih =>
    obtain ⟨A, hA, eA⟩ := ha ⟨n0 + k, by omega⟩
    rw [Fin.sum_univ_castSucc]
    unfold taps
    refine congrArg₂ (fun u v : EReal => u + v) (ih (by omega)) ?_
    refine (tap_at _ _ _ vh r d (X + (o (ix2 r ⟨(n0 + k) * 2, by omega⟩) : EReal).toReal) (Y + (o (ix2 r ⟨(n0 + k) * 2 + 1, by omega⟩) : EReal).toReal) A hA ?_ ?_ ?_).trans ?_
    · clean_types
      pointwise
      rw [hx, EReal.coe_add, (ho _).coe_toReal]
    · clean_types
      pointwise
      rw [hy, EReal.coe_add, (ho _).coe_toReal]
    · clean_types
      pointwise
      exact eA
    · rw [← eA]
      rfl

/-- A head's values at a row and a column. -/
theorem headV_at (v : Vec Ideal S1x4x64x1536 .f32) (h : Fin 4)
    (hh : ∀ a, (![0, h.val, 0, 0] : Fin 4 → Nat) a + S1x1x64x1536.size a ≤ S1x4x64x1536.size a) (y : Fin 64) (j : Fin 1536) :
    (headV v h.val hh (ix2 y j) : EReal) = v (ix4 0 h y j) := by
  have e : ∀ u : Vec Ideal S1x1x64x1536 .f32,
      (shapeCast S64x1536 u shapeCasts_S1x1x64x1536_S64x1536 (ix2 y j) : EReal) = u (ix4 0 0 y j) := fun u => by
    clean_types
    pointwise
  refine (e _).trans (View.ld_unit_apply_of v _ _ hh (ix4 0 0 y j) (ix4 0 h y j) fun a => ?_)
  fin_cases a
  · rfl
  · exact (Nat.add_zero _).symm
  · exact (Nat.zero_add _).symm
  · exact (Nat.zero_add _).symm

/-- The taps of a head at a row of a block and a channel. -/
theorem head_at (g : grid2.Coords) (v : Vec Ideal S1x4x64x1536 .f32) (o : Vec Ideal S1x256x72 .f32) (a : Vec Ideal S1x256x36 .f32)
    (r : Fin 256) (h : Fin 4) (d e : Fin 24) (hd : e = d)
    (ho : ∀ q : Fin 72, Spec.IsR (o (ix3 0 r q))) (ha : ∀ q : Fin 36, ∃ A : ℝ, 0 ≤ A ∧ (a (ix3 0 r q) : EReal) = (A : EReal))
    (hh : ∀ a, (![0, h.val, 0, 0] : Fin 4 → Nat) a + S1x1x64x1536.size a ≤ S1x4x64x1536.size a) :
    (taps (k2_pay5 g) (k2_pay9 (k2_pay6 g) (k2_pay7 g) (k2_pay8 g)) (k2_pay13 o) (k2_pay14 a) (headV v h.val hh) (h.val * 9) 9 (by omega)
        (ix2 r e) : EReal)
      = ∑ q : Fin 9, Spec.bil (fun y x => v (ix4 0 h y ⟨d.val * 64 + x.val, by omega⟩))
          (((((g 0).val * 256 + r.val) % 64 : ℕ) : ℝ) + (o (ix3 0 r ⟨(h.val * 9 + q.val) * 2, by omega⟩) : EReal).toReal)
          (((((g 0).val * 256 + r.val) / 64 : ℕ) : ℝ) + (o (ix3 0 r ⟨(h.val * 9 + q.val) * 2 + 1, by omega⟩) : EReal).toReal)
        * (a (ix3 0 r ⟨h.val * 9 + q.val, by omega⟩) : EReal) := by
  subst hd
  have eo : ∀ q : Fin 72, (k2_pay13 o (ix2 r q) : EReal) = o (ix3 0 r q) := fun q => by
    unfold k2_pay13
    clean_types
    pointwise
  have ea : ∀ q : Fin 36, (k2_pay14 a (ix2 r q) : EReal) = a (ix3 0 r q) := fun q => by
    unfold k2_pay14
    clean_types
    pointwise
  rw [taps_at _ _ _ _ _ r e _ _ (gridX g r) (gridY g r) (fun q => by rw [eo]; exact ho q) (fun q => by rw [ea]; exact ha q)]
  simp only [eo, ea, headV_at]

/-- What one grid point adds to the running sum at a row of its block and a channel of a head. -/
theorem step_at (g : grid2.Coords) (v : Vec Ideal S1x4x64x1536 .f32) (o : Vec Ideal S1x256x72 .f32) (a : Vec Ideal S1x256x36 .f32)
    (r : Fin 256) (h : Fin 4) (d : Fin 24)
    (ho : ∀ q : Fin 72, Spec.IsR (o (ix3 0 r q))) (ha : ∀ q : Fin 36, ∃ A : ℝ, 0 ≤ A ∧ (a (ix3 0 r q) : EReal) = (A : EReal)) :
    (step g v o a (ix2 r ⟨h.val * 24 + d.val, by omega⟩) : EReal)
      = ∑ q : Fin 9, Spec.bil (fun y x => v (ix4 0 h y ⟨d.val * 64 + x.val, by omega⟩))
          (((((g 0).val * 256 + r.val) % 64 : ℕ) : ℝ) + (o (ix3 0 r ⟨(h.val * 9 + q.val) * 2, by omega⟩) : EReal).toReal)
          (((((g 0).val * 256 + r.val) / 64 : ℕ) : ℝ) + (o (ix3 0 r ⟨(h.val * 9 + q.val) * 2 + 1, by omega⟩) : EReal).toReal)
        * (a (ix3 0 r ⟨h.val * 9 + q.val, by omega⟩) : EReal) := by
  unfold step
  clean_types
  pointwise
  obtain ⟨hv, hlt⟩ := h
  have h0 : hv = 0 ∨ hv = 1 ∨ hv = 2 ∨ hv = 3 := by omega
  rcases h0 with rfl | rfl | rfl | rfl
  · rw [dif_pos (show 0 * 24 + d.val < 24 by omega)]
    exact head_at g v o a r 0 d _ (Fin.ext (by simp only; omega)) ho ha _
  · rw [dif_neg (show ¬ 1 * 24 + d.val < 24 by omega), dif_pos (show 1 * 24 + d.val - 24 < 24 by omega)]
    exact head_at g v o a r 1 d _ (Fin.ext (by simp only; omega)) ho ha _
  · rw [dif_neg (show ¬ 2 * 24 + d.val < 24 by omega), dif_neg (show ¬ 2 * 24 + d.val - 24 < 24 by omega),
      dif_pos (show 2 * 24 + d.val - 24 - 24 < 24 by omega)]
    exact head_at g v o a r 2 d _ (Fin.ext (by simp only; omega)) ho ha _
  · rw [dif_neg (show ¬ 3 * 24 + d.val < 24 by omega), dif_neg (show ¬ 3 * 24 + d.val - 24 < 24 by omega),
      dif_neg (show ¬ 3 * 24 + d.val - 24 - 24 < 24 by omega)]
    exact head_at g v o a r 3 d _ (Fin.ext (by simp only; omega)) ho ha _

end Cert.Gather
-- ==== Proof.GatherSum.lean ====
/- The third launch: the accumulator over the seven frames, and what the launch leaves in its second result. -/
module

public import proofs.«01_k».proof.Proof.GatherTap

@[expose] public section

set_option maxRecDepth 16384

noncomputable section

namespace Cert.Gather

open Idealize.ShloMosaic Idealize.SL.Sem Cert.KernelIdeal Cert.KernelIdeal.Gen

variable (V : (c : Dev nD) → (b : Ref sig .tc) → Buf (Elt Ideal) ((c.tc : Thread nD τ).loc b))

/-- The first frame's point starts the running sum. -/
theorem stepA (c : Dev nD) (t : Fin cfg2.N) (h0 : t.val % 7 = 0) (j : S256x96.Idx) :
    ((outsAt2 V c t.val t.isLt).1 j : EReal)
      = k2_pay2 (step (grid2.coords t) (iblk2 V c 0 t) (iblk2 V c 1 t) (iblk2 V c 2 t)) (k2_pay1 (F := Ideal)) j := by
  rw [outsAt2_A V c t h0 (by omega)]
  frame_out
  chain_rfl

/-- A later frame's point adds to the running sum. -/
theorem stepB (c : Dev nD) (t : Fin cfg2.N) (h0 : ¬ t.val % 7 = 0) (j : S256x96.Idx) :
    ((outsAt2 V c t.val t.isLt).1 j : EReal)
      = k2_pay2 (step (grid2.coords t) (iblk2 V c 0 t) (iblk2 V c 1 t) (iblk2 V c 2 t)) (outsAt2 V c (t.val - 1) (by omega)).1 j := by
  by_cases h1 : t.val % 7 = 6
  · rw [outsAt2_C V c t h0 h1]
    frame_out
    chain_rfl
  · rw [outsAt2_B V c t h0 h1]
    frame_out
    chain_rfl

/-- The last frame's point makes the result from the running sum. -/
theorem stepC (c : Dev nD) (t : Fin cfg2.N) (h1 : t.val % 7 = 6) (j : S256x96.Idx) :
    ((outsAt2 V c t.val t.isLt).2 j : EReal)
      = k2_pay3 (outsAt2 V c t.val t.isLt).1 (iblk2 V c 4 t) (iblk2 V c 5 t) (iblk2 V c 3 t) j := by
  have e : (outsAt2 V c t.val t.isLt).1
      = k2_pay2 (step (grid2.coords t) (iblk2 V c 0 t) (iblk2 V c 1 t) (iblk2 V c 2 t)) (outsAt2 V c (t.val - 1) (by omega)).1 :=
    funext fun j => stepB V c t (by omega) j
  rw [e, outsAt2_C V c t (by omega) h1]
  frame_out
  refine (?_ : (_ : EReal) = _)
  chain_rfl

/-- The accumulation of a step adds the step's samples. -/
theorem pay2_at (u : FVec Ideal S256x96 .f32) (v : Vec Ideal S256x96 .f32) (j : S256x96.Idx) : (k2_pay2 u v j : EReal) = v j + u j := by
  unfold k2_pay2
  clean_types
  idx_vars j
  pointwise

/-- The accumulator starts at zero. -/
theorem pay1_at (j : S256x96.Idx) : ((k2_pay1 : FVec Ideal S256x96 .f32) j : EReal) = 0 := by
  unfold k2_pay1
  clean_types
  idx_vars j
  pointwise

/-- The last step's output: the product with the output projection, its bias and the query. -/
theorem pay3_at (u : Vec Ideal S256x96 .f32) (w : Vec Ideal S96x96 .f32) (b : Vec Ideal S1x96 .f32) (q : Vec Ideal S256x96 .f32) (r : Fin 256) (o : Fin 96) :
    (k2_pay3 u w b q (ix2 r o) : EReal) = ((∑ i : Fin 96, u (ix2 r i) * w (ix2 i o)) + b (ix2 0 o)) + q (ix2 r o) := by
  unfold k2_pay3
  clean_types
  pointwise

/-- The blocks of a step: of the images and of the samples by frame, of the rest by tile of positions. -/
theorem idx (t : Fin cfg2.N) : win2_0.index t = ![t.val % 7, 0, 0, 0] ∧ win2_1.index t = ![t.val % 7, t.val / 7, 0]
    ∧ win2_2.index t = ![t.val % 7, t.val / 7, 0] ∧ win2_3.index t = ![t.val / 7, 0] ∧ win2_4.index t = ![0, 0] ∧ win2_5.index t = ![0, 0]
    ∧ win2_7.index t = ![t.val / 7, 0] ∧ (grid2.coords t 0).val = t.val / 7 := by
  revert t
  decide +kernel

/-- A step's tile is one of the sixteen. -/
theorem lt7 (t : Fin cfg2.N) : t.val / 7 < 16 := by
  have h : t.val < 112 := lt_of_lt_of_eq t.isLt (show cfg2.N = 112 from N_2)
  omega

/-- The image block of a step is its frame's images. -/
theorem blk0 (c : Dev nD) (t : Fin cfg2.N) (h : Fin 4) (y : Fin 64) (x : Fin 1536) :
    (iblk2 V c 0 t (ix4 0 h y x) : EReal) = (V c main_v32 : S7x4x64x1536.Idx → EReal) (ix4 ⟨t.val % 7, by omega⟩ h y x) := by
  blk_ext [iblk2, idx t]

/-- The offsets' block of a step: its frame's, its tile's. -/
theorem blk1 (c : Dev nD) (t : Fin cfg2.N) (r : Fin 256) (q : Fin 72) :
    (iblk2 V c 1 t (ix3 0 r q) : EReal)
      = (V c main_v19 : S7x4096x72.Idx → EReal) (ix3 ⟨t.val % 7, by omega⟩ ⟨t.val / 7 * 256 + r.val, by have := lt7 t; omega⟩ q) := by
  blk_ext [iblk2, idx t]

/-- The weights' block of a step: its frame's, its tile's. -/
theorem blk2 (c : Dev nD) (t : Fin cfg2.N) (r : Fin 256) (q : Fin 36) :
    (iblk2 V c 2 t (ix3 0 r q) : EReal)
      = (V c main_v22 : S7x4096x36.Idx → EReal) (ix3 ⟨t.val % 7, by omega⟩ ⟨t.val / 7 * 256 + r.val, by have := lt7 t; omega⟩ q) := by
  blk_ext [iblk2, idx t]

/-- The query's block of a step: its tile's. -/
theorem blk3 (c : Dev nD) (t : Fin cfg2.N) (r : Fin 256) (o : Fin 96) :
    (iblk2 V c 3 t (ix2 r o) : EReal)
      = (V c main_v3 : S4096x96.Idx → EReal) (ix2 ⟨t.val / 7 * 256 + r.val, by have := lt7 t; omega⟩ o) := by
  blk_ext [iblk2, idx t]

/-- The block of the output projection is the whole operand. -/
theorem blk4 (c : Dev nD) (t : Fin cfg2.N) (j : S96x96.Idx) : (iblk2 V c 4 t j : EReal) = (V c main_v34 : S96x96.Idx → EReal) j := by
  blk_ext [iblk2, idx t]

/-- The block of its bias is the whole operand. -/
theorem blk5 (c : Dev nD) (t : Fin cfg2.N) (j : S1x96.Idx) : (iblk2 V c 5 t j : EReal) = (V c main_v35 : S1x96.Idx → EReal) j := by
  blk_ext [iblk2, idx t]

/-- The result's block of a step: its tile's. -/
theorem emb7 (t : Fin cfg2.N) (r : Fin 256) (o : Fin 96) :
    (((View.whole main_v36_1).slice (win2_7.rect t)).emb (ix2 r o) : S4096x96.Idx) = ix2 ⟨t.val / 7 * 256 + r.val, by have := lt7 t; omega⟩ o := by
  blk_ext [iblk2, idx t]

/-- The attended value at a position, of a channel of a head: the samples of all frames and points, weighted. -/
def att (I : S7x4x64x1536.Idx → EReal) (O : S7x4096x72.Idx → EReal) (A : S7x4096x36.Idx → EReal) (p : Fin 4096) (h : Fin 4) (d : Fin 24) : EReal :=
  ∑ t : Fin 7, ∑ q : Fin 9, Spec.bil (fun y x => I (ix4 t h y ⟨d.val * 64 + x.val, by omega⟩))
      (((p.val % 64 : ℕ) : ℝ) + (O (ix3 t p ⟨(h.val * 9 + q.val) * 2, by omega⟩)).toReal)
      (((p.val / 64 : ℕ) : ℝ) + (O (ix3 t p ⟨(h.val * 9 + q.val) * 2 + 1, by omega⟩)).toReal)
    * A (ix3 t p ⟨h.val * 9 + q.val, by omega⟩)

/-- What the third launch leaves in its second result. -/
def G (I : S7x4x64x1536.Idx → EReal) (O : S7x4096x72.Idx → EReal) (A : S7x4096x36.Idx → EReal) (Q : S4096x96.Idx → EReal)
    (W : S96x96.Idx → EReal) (B : S1x96.Idx → EReal) : FVec Ideal S4096x96 .f32 := fun i =>
  ((∑ e : Fin 96, att I O A (i 0) ⟨e.val / 24, by omega⟩ ⟨e.val % 24, by omega⟩ * W (ix2 e (i 1))) + B (ix2 0 (i 1))) + Q (ix2 (i 0) (i 1))

/-- The running sum after the last frame. -/
theorem acc_at (c : Dev nD) (t : Fin cfg2.N) (ht : t.val % 7 = 6) (r : Fin 256) (h : Fin 4) (d : Fin 24)
    (hO : ∀ i, Spec.IsR ((V c main_v19 : S7x4096x72.Idx → EReal) i))
    (hA : ∀ i, ∃ A : ℝ, 0 ≤ A ∧ (V c main_v22 : S7x4096x36.Idx → EReal) i = (A : EReal)) :
    ((outsAt2 V c t.val t.isLt).1 (ix2 r ⟨h.val * 24 + d.val, by omega⟩) : EReal)
      = att (V c main_v32) (V c main_v19) (V c main_v22) ⟨t.val / 7 * 256 + r.val, by have := lt7 t; omega⟩ h d := by
  refine (Pipeline.eq_sum_fin_of_reset_step_apply_of_flush (M := EReal) (fun n hn (j : S256x96.Idx) => ((outsAt2 V c n hn).1 j : EReal)) 7 (fun _ => 0)
    (fun t j => (step (grid2.coords t) (iblk2 V c 0 t) (iblk2 V c 1 t) (iblk2 V c 2 t) j : EReal)) ?_ ?_ t ht _).trans ?_
  · intro t h0 j
    refine (stepA V c t h0 j).trans ((pay2_at _ _ j).trans ?_)
    rw [pay1_at]
  · intro t h0 j
    exact (stepB V c t h0 j).trans (pay2_at _ _ j)
  · rw [zero_add]
    unfold att
    refine Finset.sum_congr rfl fun s _ => ?_
    refine (step_at _ _ _ _ r h d (fun q => ?_) (fun q => ?_)).trans ?_
    · rw [blk1]; exact hO _
    · rw [blk2]; exact hA _
    · have e1 : (7 * (t.val / 7) + s.val) % 7 = s.val := by omega
      have e2 : (7 * (t.val / 7) + s.val) / 7 = t.val / 7 := by omega
      simp only [blk0, blk1, blk2, (idx _).2.2.2.2.2.2.2, e1, e2]

/-- The launch leaves in its second result the output projection of the attended values, plus its bias and the query. -/
theorem arr (c : Dev nD) (hO : ∀ i, Spec.IsR ((V c main_v19 : S7x4096x72.Idx → EReal) i))
    (hA : ∀ i, ∃ A : ℝ, 0 ≤ A ∧ (V c main_v22 : S7x4096x36.Idx → EReal) i = (A : EReal)) :
    (dat2 V c).arrAt 7 cfg2.N = G (V c main_v32) (V c main_v19) (V c main_v22) (V c main_v3) (V c main_v34) (V c main_v35) := by
  refine (dat2 V c).arrAt_eq_of_covers 7 _ (by decide +kernel) fun t hf y => ?_
  have ht : t.val % 7 = 6 := (flush2_7 t).mp hf
  blk_simp
  rw [after2_7]
  idx_vars y
  rw [emb7]
  refine (stepC V c t ht _).trans ((pay3_at _ _ _ _ y0 y1).trans ?_)
  rw [blk3, blk5]
  refine congrArg₂ (fun u v : EReal => u + v) (congrArg₂ (fun u v : EReal => u + v) (Finset.sum_congr rfl fun e _ => ?_) rfl) rfl
  rw [blk4]
  refine congrArg₂ (fun u v : EReal => u * v) ?_ rfl
  have he : ix2 y0 e = (ix2 y0 ⟨(⟨e.val / 24, by omega⟩ : Fin 4).val * 24 + (⟨e.val % 24, by omega⟩ : Fin 24).val, by simp only; omega⟩ : S256x96.Idx) :=
    congrArg (ix2 y0) (Fin.ext (by simp only; omega))
  exact (congrArg (fun j : S256x96.Idx => ((outsAt2 V c t.val t.isLt).1 j : EReal)) he).trans
    (acc_at V c t ht y0 ⟨e.val / 24, by omega⟩ ⟨e.val % 24, by omega⟩ hO hA)

end Cert.Gather
-- ==== Proof.KVal.lean ====
/- The kernel's result in the arguments: the three launches' outputs carried through the host's layout changes. -/
module

public import proofs.«01_k».proof.Proof.Host
public import proofs.«01_k».proof.Proof.Dense
public import proofs.«01_k».proof.Proof.VProj
public import proofs.«01_k».proof.Proof.GatherSum

@[expose] public section

set_option maxRecDepth 16384

noncomputable section

namespace Cert.KVal

open Idealize.ShloMosaic Idealize.ShloMosaic.TcCoe Idealize.SL.Sem Cert.KernelIdeal Cert.KernelIdeal.Gen

/-! ## The convolutions of the first launch are the mathematics' -/

/-- One tap of the first launch is the convolution's tap at that offset. -/
theorem tap_conv (Q : S66x66x96.Idx → EReal) (W : S9x96x96.Idx → EReal) (q : Fin 96 → Fin 64 → Fin 64 → EReal)
    (w : Fin 96 → Fin 96 → Fin 3 → Fin 3 → EReal) (hQ : ∀ i j c, Q (ix3 i j c) = Spec.qp q c i j)
    (hW : ∀ j x o, W (ix3 j x o) = w o x ⟨j.val / 3, by omega⟩ ⟨j.val % 3, by omega⟩) (dy dx : Fin 3) (j : Fin 9)
    (h1 : j.val / 3 = dy.val) (h2 : j.val % 3 = dx.val) (p : Fin 4096) (o : Fin 96) :
    Dense.tap Q W dy dx j p o = Spec.convTap q w dy dx o ⟨p.val / 64, by omega⟩ ⟨p.val % 64, by omega⟩ := by
  have e1 : (⟨j.val / 3, by omega⟩ : Fin 3) = dy := Fin.ext h1
  have e2 : (⟨j.val % 3, by omega⟩ : Fin 3) = dx := Fin.ext h2
  unfold Dense.tap Spec.convTap
  refine Finset.sum_congr rfl fun c _ => ?_
  rw [hQ, hW, e1, e2, mul_comm]

/-- The first launch's convolution is the mathematics' convolution. -/
theorem cv_conv (Q : S66x66x96.Idx → EReal) (W : S9x96x96.Idx → EReal) (B : S1x96.Idx → EReal) (q : Fin 96 → Fin 64 → Fin 64 → EReal)
    (w : Fin 96 → Fin 96 → Fin 3 → Fin 3 → EReal) (b : Fin 96 → EReal) (hQ : ∀ i j c, Q (ix3 i j c) = Spec.qp q c i j)
    (hW : ∀ j x o, W (ix3 j x o) = w o x ⟨j.val / 3, by omega⟩ ⟨j.val % 3, by omega⟩) (hB : ∀ o, B (ix2 0 o) = b o)
    (p : Fin 4096) (o : Fin 96) :
    Dense.cv Q W B p o = Spec.conv q w b o ⟨p.val / 64, by omega⟩ ⟨p.val % 64, by omega⟩ := by
  have T := tap_conv Q W q w hQ hW
  unfold Dense.cv Spec.conv
  rw [T 0 0 0 rfl rfl, T 0 1 1 rfl rfl, T 0 2 2 rfl rfl, T 1 0 3 rfl rfl, T 1 1 4 rfl rfl, T 1 2 5 rfl rfl, T 2 0 6 rfl rfl,
    T 2 1 7 rfl rfl, T 2 2 8 rfl rfl, hB]

/-- The first launch's product of the gelu is the mathematics' logit. -/
theorem lg_logit {n : ℕ} (Q : S66x66x96.Idx → EReal) (W : S9x96x96.Idx → EReal) (B : S1x96.Idx → EReal) (W2 : Fin 96 → Fin n → EReal)
    (B2 : Fin n → EReal) (q : Fin 96 → Fin 64 → Fin 64 → EReal) (w : Fin 96 → Fin 96 → Fin 3 → Fin 3 → EReal) (b : Fin 96 → EReal)
    (w2 : Fin n → Fin 96 → EReal) (b2 : Fin n → EReal) (hQ : ∀ i j c, Q (ix3 i j c) = Spec.qp q c i j)
    (hW : ∀ j x o, W (ix3 j x o) = w o x ⟨j.val / 3, by omega⟩ ⟨j.val % 3, by omega⟩) (hB : ∀ o, B (ix2 0 o) = b o)
    (hW2 : ∀ x o, W2 x o = w2 o x) (hB2 : ∀ o, B2 o = b2 o) (p : Fin 4096) (o : Fin n) :
    Dense.lg Q W B W2 B2 p o = Spec.logit q w b w2 b2 o ⟨p.val / 64, by omega⟩ ⟨p.val % 64, by omega⟩ := by
  unfold Dense.lg Spec.logit
  rw [hB2]
  refine congrArg (· + b2 o) (Finset.sum_congr rfl fun c _ => ?_)
  rw [hW2, cv_conv Q W B q w b hQ hW hB, mul_comm]

variable (m : (ℓ : Loc nD τ sig) → Buf (Elt Ideal) ℓ) (ρ : Dev nD → PrngReg) (c : Dev nD)

/-! ## The arguments by plain coordinates -/

/-- The query. -/
def kQ (k : Fin 96) (y x : Fin 64) : EReal := (m ((c.tc : Thread nD τ).loc main_arg0) : FVec Ideal S1x96x64x64 .f32) (ix4 0 k y x)
/-- The context frames. -/
def kX (t : Fin 7) (k : Fin 96) (y x : Fin 64) : EReal :=
  (m ((c.tc : Thread nD τ).loc main_arg1) : FVec Ideal S7x1x96x64x64 .f32) (ix5 t 0 k y x)
/-- The offsets' convolution. -/
def kOW1 (o k : Fin 96) (i j : Fin 3) : EReal := (m ((c.tc : Thread nD τ).loc main_arg2) : FVec Ideal S96x96x3x3 .f32) (ix4 o k i j)
/-- Its bias. -/
def kOB1 (o : Fin 96) : EReal := (m ((c.tc : Thread nD τ).loc main_arg3) : FVec Ideal S96 .f32) (ix1 o)
/-- The offsets' product. -/
def kOW2 (o : Fin 504) (k : Fin 96) : EReal := (m ((c.tc : Thread nD τ).loc main_arg4) : FVec Ideal S504x96x1x1 .f32) (ix4 o k 0 0)
/-- Its bias. -/
def kOB2 (o : Fin 504) : EReal := (m ((c.tc : Thread nD τ).loc main_arg5) : FVec Ideal S504 .f32) (ix1 o)
/-- The weights' convolution. -/
def kAW1 (o k : Fin 96) (i j : Fin 3) : EReal := (m ((c.tc : Thread nD τ).loc main_arg6) : FVec Ideal S96x96x3x3 .f32) (ix4 o k i j)
/-- Its bias. -/
def kAB1 (o : Fin 96) : EReal := (m ((c.tc : Thread nD τ).loc main_arg7) : FVec Ideal S96 .f32) (ix1 o)
/-- The weights' product. -/
def kAW2 (o : Fin 252) (k : Fin 96) : EReal := (m ((c.tc : Thread nD τ).loc main_arg8) : FVec Ideal S252x96x1x1 .f32) (ix4 o k 0 0)
/-- Its bias. -/
def kAB2 (o : Fin 252) : EReal := (m ((c.tc : Thread nD τ).loc main_arg9) : FVec Ideal S252 .f32) (ix1 o)
/-- The value projection. -/
def kVW (o k : Fin 96) : EReal := (m ((c.tc : Thread nD τ).loc main_arg10) : FVec Ideal S96x96x1x1 .f32) (ix4 o k 0 0)
/-- Its bias. -/
def kVB (o : Fin 96) : EReal := (m ((c.tc : Thread nD τ).loc main_arg11) : FVec Ideal S96 .f32) (ix1 o)
/-- The output projection. -/
def kUW (o k : Fin 96) : EReal := (m ((c.tc : Thread nD τ).loc main_arg12) : FVec Ideal S96x96x1x1 .f32) (ix4 o k 0 0)
/-- Its bias. -/
def kUB (o : Fin 96) : EReal := (m ((c.tc : Thread nD τ).loc main_arg13) : FVec Ideal S96 .f32) (ix1 o)

/-! ## The first launch's operands -/

/-- The query with its channels last, when the last stretch of host code before the first launch begins. -/
theorem W2_v1 (y x : Fin 64) (k : Fin 96) :
    ((W2 m ρ c (Proc.devRef .tc main_v1) : FVec Ideal S64x64x96 .f32) (ix3 y x k) : EReal) = kQ m c k y x := by
  rw [W2_of m ρ c main_v1 (by decide)]
  exact Host.v1_at (W0 m ρ c) y x k

/-- The first launch's padded query. -/
theorem V3_v2 (i j : Fin 66) (k : Fin 96) : ((V3 m ρ c main_v2 : FVec Ideal S66x66x96 .f32) (ix3 i j k) : EReal) = Spec.qp (kQ m c) k i j := by
  show ((W3 m ρ c (Proc.devRef .tc main_v2) : FVec Ideal S66x66x96 .f32) (ix3 i j k) : EReal) = _
  rw [W3_of m ρ c main_v2 (by decide)]
  refine (Host.v2_at (W1 m ρ c) i j k (Host.c_at (W0 m ρ c))).trans ?_
  exact congrArg (fun q => Spec.qp q k i j) (funext fun a => funext fun y => funext fun x => Host.v1_at (W0 m ρ c) y x a)

/-- The flattened query. -/
theorem V3_v3 (p : Fin 4096) (k : Fin 96) : ((V3 m ρ c main_v3 : FVec Ideal S4096x96 .f32) (ix2 p k) : EReal)
    = kQ m c k ⟨p.val / 64, by omega⟩ ⟨p.val % 64, by omega⟩ :=
  (Host.v3_at (W2 m ρ c) p k).trans (W2_v1 m ρ c _ _ k)

/-- The taps of the offsets' convolution. -/
theorem V3_v5 (j : Fin 9) (x o : Fin 96) : ((V3 m ρ c main_v5 : FVec Ideal S9x96x96 .f32) (ix3 j x o) : EReal)
    = kOW1 m c o x ⟨j.val / 3, by omega⟩ ⟨j.val % 3, by omega⟩ :=
  (Host.v5_at (W2 m ρ c) j x o).trans (congrFun (W2_args m ρ c main_arg2 (by decide)) _)

/-- The taps of the weights' convolution. -/
theorem V3_v7 (j : Fin 9) (x o : Fin 96) : ((V3 m ρ c main_v7 : FVec Ideal S9x96x96 .f32) (ix3 j x o) : EReal)
    = kAW1 m c o x ⟨j.val / 3, by omega⟩ ⟨j.val % 3, by omega⟩ :=
  (Host.v7_at (W2 m ρ c) j x o).trans (congrFun (W2_args m ρ c main_arg6 (by decide)) _)

/-- The offsets' product, transposed. -/
theorem V3_v9 (x : Fin 96) (o : Fin 504) : ((V3 m ρ c main_v9 : FVec Ideal S96x504 .f32) (ix2 x o) : EReal) = kOW2 m c o x :=
  (Host.v9_at (W2 m ρ c) x o).trans (congrFun (W2_args m ρ c main_arg4 (by decide)) _)

/-- The weights' product, transposed. -/
theorem V3_v11 (x : Fin 96) (o : Fin 252) : ((V3 m ρ c main_v11 : FVec Ideal S96x252 .f32) (ix2 x o) : EReal) = kAW2 m c o x :=
  (Host.v11_at (W2 m ρ c) x o).trans (congrFun (W2_args m ρ c main_arg8 (by decide)) _)

/-- The bias of the offsets' convolution. -/
theorem V3_v12 (o : Fin 96) : ((V3 m ρ c main_v12 : FVec Ideal S1x96 .f32) (ix2 0 o) : EReal) = kOB1 m c o :=
  (Host.v12_at (W2 m ρ c) o).trans (congrFun (W2_args m ρ c main_arg3 (by decide)) _)

/-- The bias of the offsets' product. -/
theorem V3_v13 (o : Fin 504) : ((V3 m ρ c main_v13 : FVec Ideal S1x504 .f32) (ix2 0 o) : EReal) = kOB2 m c o :=
  (Host.v13_at (W2 m ρ c) o).trans (congrFun (W2_args m ρ c main_arg5 (by decide)) _)

/-- The bias of the weights' convolution. -/
theorem V3_v14 (o : Fin 96) : ((V3 m ρ c main_v14 : FVec Ideal S1x96 .f32) (ix2 0 o) : EReal) = kAB1 m c o :=
  (Host.v14_at (W2 m ρ c) o).trans (congrFun (W2_args m ρ c main_arg7 (by decide)) _)

/-- The bias of the weights' product. -/
theorem V3_v15 (o : Fin 252) : ((V3 m ρ c main_v15 : FVec Ideal S1x252 .f32) (ix2 0 o) : EReal) = kAB2 m c o :=
  (Host.v15_at (W2 m ρ c) o).trans (congrFun (W2_args m ρ c main_arg9 (by decide)) _)

/-! ## The first launch's outputs -/

/-- An offset of the first launch is the mathematics' offset. -/
theorem W4_off (p : Fin 4096) (j : Fin 504) : ((W4 m ρ c (Proc.devRef .tc main_v16_0) : FVec Ideal S4096x504 .f32) (ix2 p j) : EReal)
    = Spec.off (kQ m c) (kOW1 m c) (kOB1 m c) (kOW2 m c) (kOB2 m c) j ⟨p.val / 64, by omega⟩ ⟨p.val % 64, by omega⟩ := by
  refine (congrFun ((W4_arr m ρ c 9).trans (Dense.arr9 (V3 m ρ) c)) (ix2 p j)).trans ?_
  unfold Dense.G9 Spec.off
  exact congrArg (fun l => Ideal.tanh l * Ideal.ofBits .f32 0x42000000#32)
    (lg_logit _ _ _ _ _ _ _ _ _ _ (V3_v2 m ρ c) (V3_v5 m ρ c) (V3_v12 m ρ c) (V3_v9 m ρ c) (V3_v13 m ρ c) p j)

/-- A weight of the first launch is the mathematics' weight. -/
theorem W4_attn (p : Fin 4096) (j : Fin 252) : ((W4 m ρ c (Proc.devRef .tc main_v16_1) : FVec Ideal S4096x252 .f32) (ix2 p j) : EReal)
    = Spec.attn (kQ m c) (kAW1 m c) (kAB1 m c) (kAW2 m c) (kAB2 m c) ⟨j.val / 63, by omega⟩ ⟨j.val % 63, by omega⟩
        ⟨p.val / 64, by omega⟩ ⟨p.val % 64, by omega⟩ := by
  refine (congrFun ((W4_arr m ρ c 10).trans (Dense.arr10 (V3 m ρ) c)) (ix2 p j)).trans ?_
  unfold Dense.G10 Spec.attn
  exact congrArg (fun l => Spec.soft l ⟨j.val % 63, by omega⟩) (funext fun k =>
    lg_logit _ _ _ _ _ _ _ _ _ _ (V3_v2 m ρ c) (V3_v7 m ρ c) (V3_v14 m ρ c) (V3_v11 m ρ c) (V3_v15 m ρ c) p _)

/-! ## The last launch's operands -/

/-- The last launch's query is still the flattened query. -/
theorem V7_v3 (p : Fin 4096) (k : Fin 96) : ((V7 m ρ c main_v3 : FVec Ideal S4096x96 .f32) (ix2 p k) : EReal)
    = kQ m c k ⟨p.val / 64, by omega⟩ ⟨p.val % 64, by omega⟩ := by
  show ((W7 m ρ c (Proc.devRef .tc main_v3) : FVec Ideal S4096x96 .f32) (ix2 p k) : EReal) = _
  rw [W7_of m ρ c main_v3 (by decide), W6_of m ρ c main_v3 (by decide), W5_of m ρ c main_v3 (by decide),
    W4_of m ρ c main_v3 (by decide)]
  exact V3_v3 m ρ c p k

/-- The last launch's offsets, split by frame. -/
theorem V7_v19 (t : Fin 7) (p : Fin 4096) (q : Fin 72) : ((V7 m ρ c main_v19 : FVec Ideal S7x4096x72 .f32) (ix3 t p q) : EReal)
    = Spec.off (kQ m c) (kOW1 m c) (kOB1 m c) (kOW2 m c) (kOB2 m c) ⟨(q.val / 18 * 7 + t.val) * 18 + q.val % 18, by omega⟩
        ⟨p.val / 64, by omega⟩ ⟨p.val % 64, by omega⟩ := by
  show ((W7 m ρ c (Proc.devRef .tc main_v19) : FVec Ideal S7x4096x72 .f32) (ix3 t p q) : EReal) = _
  rw [W7_of m ρ c main_v19 (by decide), W6_of m ρ c main_v19 (by decide)]
  exact (Host.v19_at (W4 m ρ c) t p q).trans (W4_off m ρ c p _)

/-- The last launch's weights, split by frame. -/
theorem V7_v22 (t : Fin 7) (p : Fin 4096) (q : Fin 36) : ((V7 m ρ c main_v22 : FVec Ideal S7x4096x36 .f32) (ix3 t p q) : EReal)
    = Spec.attn (kQ m c) (kAW1 m c) (kAB1 m c) (kAW2 m c) (kAB2 m c) ⟨q.val / 9, by omega⟩ ⟨t.val * 9 + q.val % 9, by omega⟩
        ⟨p.val / 64, by omega⟩ ⟨p.val % 64, by omega⟩ := by
  show ((W7 m ρ c (Proc.devRef .tc main_v22) : FVec Ideal S7x4096x36 .f32) (ix3 t p q) : EReal) = _
  rw [W7_of m ρ c main_v22 (by decide), W6_of m ρ c main_v22 (by decide)]
  refine (Host.v22_at (W4 m ρ c) t p q).trans ((W4_attn m ρ c p _).trans ?_)
  exact congrArg₂ (fun h j => Spec.attn (kQ m c) (kAW1 m c) (kAB1 m c) (kAW2 m c) (kAB2 m c) h j _ _)
    (Fin.ext (by simp only; omega)) (Fin.ext (by simp only; omega))

/-- The second launch leaves the value projection. -/
theorem W6_v29 (i : Fin 28672) (o : Fin 96) : ((W6 m ρ c (Proc.devRef .tc main_v29) : FVec Ideal S28672x96 .f32) (ix2 i o) : EReal)
    = Spec.vproj (kX m c) (kVW m c) (kVB m c) ⟨i.val / 4096, by omega⟩ o ⟨i.val / 64 % 64, by omega⟩ ⟨i.val % 64, by omega⟩ := by
  refine (congrFun ((W6_arr m ρ c 3).trans (VProj.arr (V5 m ρ) c)) (ix2 i o)).trans ?_
  unfold VProj.G Spec.vproj
  refine congrArg₂ (· + ·) (Finset.sum_congr rfl fun k _ => ?_)
    ((Host.v28_at (W4 m ρ c) o).trans (congrFun (W4_args m ρ c main_arg11 (by decide)) _))
  refine Eq.trans (congrArg₂ (· * ·)
    ((Host.v25_at (W4 m ρ c) i k).trans (congrFun (W4_args m ρ c main_arg1 (by decide)) _))
    ((Host.v27_at (W4 m ρ c) k o).trans (congrFun (W4_args m ρ c main_arg10 (by decide)) _))) ?_
  exact mul_comm _ _

/-- The last launch's images: the value projection by frame, head, row, and channel with column. -/
theorem V7_v32 (t : Fin 7) (h : Fin 4) (y x : Fin 64) (d : Fin 24) :
    ((V7 m ρ c main_v32 : FVec Ideal S7x4x64x1536 .f32) (ix4 t h y ⟨d.val * 64 + x.val, by omega⟩) : EReal)
      = Spec.vproj (kX m c) (kVW m c) (kVB m c) t ⟨h.val * 24 + d.val, by omega⟩ y x := by
  refine (Host.v32_at (W6 m ρ c) t h y _).trans ((W6_v29 m ρ c _ _).trans ?_)
  have e1 : (⟨(t.val * 4096 + y.val * 64 + (d.val * 64 + x.val) % 64) / 4096, by omega⟩ : Fin 7) = t := Fin.ext (by simp only; omega)
  have e2 : (⟨h.val * 24 + (d.val * 64 + x.val) / 64, by omega⟩ : Fin 96) = ⟨h.val * 24 + d.val, by omega⟩ := Fin.ext (by simp only; omega)
  have e3 : (⟨(t.val * 4096 + y.val * 64 + (d.val * 64 + x.val) % 64) / 64 % 64, by omega⟩ : Fin 64) = y := Fin.ext (by simp only; omega)
  have e4 : (⟨(t.val * 4096 + y.val * 64 + (d.val * 64 + x.val) % 64) % 64, by omega⟩ : Fin 64) = x := Fin.ext (by simp only; omega)
  simp only [e1, e2, e3, e4]

/-- The output projection, transposed. -/
theorem V7_v34 (x o : Fin 96) : ((V7 m ρ c main_v34 : FVec Ideal S96x96 .f32) (ix2 x o) : EReal) = kUW m c o x :=
  (Host.v34_at (W6 m ρ c) x o).trans (congrFun (W6_args m ρ c main_arg12 (by decide)) _)

/-- The output projection's bias. -/
theorem V7_v35 (o : Fin 96) : ((V7 m ρ c main_v35 : FVec Ideal S1x96 .f32) (ix2 0 o) : EReal) = kUB m c o :=
  (Host.v35_at (W6 m ρ c) o).trans (congrFun (W6_args m ρ c main_arg13 (by decide)) _)

/-! ## The result -/

/-- The mathematics' result in the kernel's arguments. -/
def kResult (o : Fin 96) (y x : Fin 64) : EReal :=
  Spec.result (kQ m c) (fun h d => Spec.deform (fun j => Spec.off (kQ m c) (kOW1 m c) (kOB1 m c) (kOW2 m c) (kOB2 m c) j y x)
    (fun h j => Spec.attn (kQ m c) (kAW1 m c) (kAB1 m c) (kAW2 m c) (kAB2 m c) h j y x) (Spec.vproj (kX m c) (kVW m c) (kVB m c)) h d y x)
    (kUW m c) (kUB m c) o y x

/-- The last launch's attended value is the mathematics'. -/
theorem att_deform (p : Fin 4096) (h : Fin 4) (d : Fin 24) :
    Gather.att (V7 m ρ c main_v32) (V7 m ρ c main_v19) (V7 m ρ c main_v22) p h d
      = Spec.deform (fun j => Spec.off (kQ m c) (kOW1 m c) (kOB1 m c) (kOW2 m c) (kOB2 m c) j ⟨p.val / 64, by omega⟩ ⟨p.val % 64, by omega⟩)
        (fun h j => Spec.attn (kQ m c) (kAW1 m c) (kAB1 m c) (kAW2 m c) (kAB2 m c) h j ⟨p.val / 64, by omega⟩ ⟨p.val % 64, by omega⟩)
        (Spec.vproj (kX m c) (kVW m c) (kVB m c)) h d ⟨p.val / 64, by omega⟩ ⟨p.val % 64, by omega⟩ := by
  unfold Gather.att Spec.deform
  refine Finset.sum_congr rfl fun t _ => Finset.sum_congr rfl fun q _ => congrArg₂ (· * ·) ?_ ?_
  · have hI : (fun y x => (V7 m ρ c main_v32 : S7x4x64x1536.Idx → EReal) (ix4 t h y ⟨d.val * 64 + x.val, by omega⟩))
        = Spec.vproj (kX m c) (kVW m c) (kVB m c) t ⟨h.val * 24 + d.val, by omega⟩ :=
      funext fun y => funext fun x => V7_v32 m ρ c t h y x d
    rw [hI]
    refine congrArg₂ (Spec.bil _) (congrArg (fun e : EReal => ((p.val % 64 : ℕ) : ℝ) + e.toReal) ?_)
      (congrArg (fun e : EReal => ((p.val / 64 : ℕ) : ℝ) + e.toReal) ?_)
    · refine (V7_v19 m ρ c t p _).trans ?_
      exact congrArg (fun j => Spec.off (kQ m c) (kOW1 m c) (kOB1 m c) (kOW2 m c) (kOB2 m c) j _ _) (Fin.ext (by simp only; omega))
    · refine (V7_v19 m ρ c t p _).trans ?_
      exact congrArg (fun j => Spec.off (kQ m c) (kOW1 m c) (kOB1 m c) (kOW2 m c) (kOB2 m c) j _ _) (Fin.ext (by simp only; omega))
  · refine (V7_v22 m ρ c t p _).trans ?_
    exact congrArg₂ (fun h j => Spec.attn (kQ m c) (kAW1 m c) (kAB1 m c) (kAW2 m c) (kAB2 m c) h j _ _)
      (Fin.ext (by simp only; omega)) (Fin.ext (by simp only; omega))

/-- The kernel's result at an index, given that every weight is a nonnegative real. -/
theorem W9_v39 (hA : ∀ h j y x, ∃ A : ℝ, 0 ≤ A ∧ Spec.attn (kQ m c) (kAW1 m c) (kAB1 m c) (kAW2 m c) (kAB2 m c) h j y x = A)
    (o : Fin 96) (y x : Fin 64) :
    ((W9 m ρ c (Proc.devRef .tc main_v39) : FVec Ideal S1x96x64x64 .f32) (ix4 0 o y x) : EReal) = kResult m c o y x := by
  have hO : ∀ i, Spec.IsR ((V7 m ρ c main_v19 : S7x4096x72.Idx → EReal) i) := fun i => by
    idx_vars i
    exact (V7_v19 m ρ c _ _ _).symm ▸ Spec.isR_off _ _ _ _ _ _ _ _
  have hA' : ∀ i, ∃ A : ℝ, 0 ≤ A ∧ (V7 m ρ c main_v22 : S7x4096x36.Idx → EReal) i = (A : EReal) := fun i => by
    idx_vars i
    exact (V7_v22 m ρ c _ _ _).symm ▸ hA _ _ _ _
  refine (Host.v39_at (W8 m ρ c) o y x).trans ?_
  refine (congrFun ((W8_arr m ρ c 7).trans (Gather.arr (V7 m ρ) c hO hA')) (ix2 _ o)).trans ?_
  unfold Gather.G kResult Spec.result
  rw [add_comm]
  have ey : (⟨(y.val * 64 + x.val) / 64, by omega⟩ : Fin 64) = y := Fin.ext (by simp only; omega)
  have ex : (⟨(y.val * 64 + x.val) % 64, by omega⟩ : Fin 64) = x := Fin.ext (by simp only; omega)
  refine congrArg₂ (· + ·) ((V7_v3 m ρ c _ o).trans (congrArg₂ (kQ m c o) ey ex))
    (congrArg₂ (· + ·) (Finset.sum_congr rfl fun e _ => ?_) (V7_v35 m ρ c o))
  refine (congrArg₂ (· * ·) (att_deform m ρ c _ _ _) (V7_v34 m ρ c e o)).trans ?_
  simp only [ix2_0, ey, ex]
  exact mul_comm _ _

end Cert.KVal
-- ==== Proof.Finite.lean ====
/- What the precondition gives: the query and the weights' four arguments hold reals, so every logit is a real and every
   attention weight a nonnegative real. -/
module

public import proofs.«01_k».proof.Defs
public import proofs.«01_k».proof.Proof.KVal
public import Idealize.ShloMosaic.Lib.ReduceAll

@[expose] public section

set_option maxRecDepth 16384

noncomputable section

namespace Cert.Finite

open Idealize.ShloMosaic Idealize.ShloMosaic.TcCoe Idealize.SL.Sem

/-- The shape relations the precondition's operations take. -/
theorem facts : Cert.Pre_finite.Facts where
  bcast_S_S1x96x64x64 := by decide
  reducesTo_S1x96x64x64_S_d0_1_2_3 := by decide
  h_S_ := by decide
  bcast_S_S96x96x3x3 := by decide
  reducesTo_S96x96x3x3_S_d0_1_2_3 := by decide
  bcast_S_S96 := by decide
  reducesTo_S96_S_d0 := by decide
  bcast_S_S252x96x1x1 := by decide
  reducesTo_S252x96x1x1_S_d0_1_2_3 := by decide
  bcast_S_S252 := by decide
  reducesTo_S252_S_d0 := by decide

/-! ## Reading the precondition -/

/-- Two bits whose conjunction is one are both one. -/
theorem and_one {a b : BitVec 1} (h : IntOp.andi a b = 1#1) : a = 1#1 ∧ b = 1#1 := by
  revert a b; decide

/-- The word that the precondition compares with is the infinity. -/
theorem ofBits_inf : Ideal.ofBits .f32 0x7F800000#32 = ⊤ := by
  simp [Ideal.ofBits, Ideal.ieee]

/-- A magnitude below the infinity is a real's. -/
theorem isR_of_cmp {x : EReal} (h : Ideal.cmp .olt (max x (-x)) (Ideal.ofBits .f32 0x7F800000#32) = 1#1) : Spec.IsR x := by
  rw [ofBits_inf] at h
  have h' : max x (-x) < ⊤ := by
    by_contra hn
    unfold Ideal.cmp at h
    simp [hn] at h
  refine Spec.isR_of_ne (fun e => ?_) (fun e => ?_)
  · subst e; simp at h'
  · subst e; simp at h'

/-- An array all of whose magnitudes the precondition found below the infinity holds reals. -/
theorem isR_of_all {s : Shape} {axes : List (Fin s.rank)} (x : FVec Ideal s .f32) (y : FVec Ideal s .f32) (hy : ∀ i, y i = Ideal.ofBits .f32 0x7F800000#32)
    (init : IVec Cert.Pre_finite.S_ 1) (h : s.ReducesTo axes Cert.Pre_finite.S_) (hu : 0 < Cert.Pre_finite.S_.numel) (j : Cert.Pre_finite.S_.Idx)
    (e : Host.reduce IntOp.andi (cmpf .olt (Host.absf x) y) init h hu j = 1#1) (i : s.Idx) : Spec.IsR (x i) := by
  have hc := Host.reduce_andi_all _ _ _ _ j e i
  refine isR_of_cmp ?_
  rw [← hy i]
  exact hc

/-- The precondition's five arguments hold reals. -/
theorem fn_isR [Cert.Pre_finite.Facts] (a0 : FVec Ideal Cert.Pre_finite.S1x96x64x64 .f32) (a1 : FVec Ideal Cert.Pre_finite.S7x1x96x64x64 .f32)
    (a2 : FVec Ideal Cert.Pre_finite.S96x96x3x3 .f32) (a3 : FVec Ideal Cert.Pre_finite.S96 .f32) (a4 : FVec Ideal Cert.Pre_finite.S504x96x1x1 .f32)
    (a5 : FVec Ideal Cert.Pre_finite.S504 .f32) (a6 : FVec Ideal Cert.Pre_finite.S96x96x3x3 .f32) (a7 : FVec Ideal Cert.Pre_finite.S96 .f32)
    (a8 : FVec Ideal Cert.Pre_finite.S252x96x1x1 .f32) (a9 : FVec Ideal Cert.Pre_finite.S252 .f32) (a10 : FVec Ideal Cert.Pre_finite.S96x96x1x1 .f32)
    (a11 : FVec Ideal Cert.Pre_finite.S96 .f32) (a12 : FVec Ideal Cert.Pre_finite.S96x96x1x1 .f32) (a13 : FVec Ideal Cert.Pre_finite.S96 .f32)
    (h : Cert.Pre_finite.fn a0 a1 a2 a3 a4 a5 a6 a7 a8 a9 a10 a11 a12 a13 = fun _ => 1#1) :
    (∀ i, Spec.IsR (a0 i)) ∧ (∀ i, Spec.IsR (a6 i)) ∧ (∀ i, Spec.IsR (a7 i)) ∧ (∀ i, Spec.IsR (a8 i)) ∧ ∀ i, Spec.IsR (a9 i) := by
  have hj := congrFun h ix0
  unfold Cert.Pre_finite.fn Cert.Pre_finite.fn_part1 at hj
  obtain ⟨hj, h9⟩ := and_one hj
  obtain ⟨hj, h8⟩ := and_one hj
  obtain ⟨hj, h7⟩ := and_one hj
  obtain ⟨h0, h6⟩ := and_one hj
  exact ⟨isR_of_all a0 _ (fun _ => rfl) _ _ _ _ h0, isR_of_all a6 _ (fun _ => rfl) _ _ _ _ h6, isR_of_all a7 _ (fun _ => rfl) _ _ _ _ h7,
    isR_of_all a8 _ (fun _ => rfl) _ _ _ _ h8, isR_of_all a9 _ (fun _ => rfl) _ _ _ _ h9⟩

/-! ## Reals through the first launch -/

/-- The gelu of a real is a real. -/
theorem isR_gelu {x : EReal} (h : Spec.IsR x) : Spec.IsR (Spec.gelu x) := by
  unfold Spec.gelu
  rw [Spec.ofBits_half]
  exact ((Spec.IsR.coe _).mul h).mul ((Spec.IsR.coe 1).add (Spec.isR_erf (h.mul Spec.isR_sqrtHalf)))

/-- A tap of the convolution of reals is a real. -/
theorem isR_convTap {Q : Fin 96 → Fin 64 → Fin 64 → EReal} {W : Fin 96 → Fin 96 → Fin 3 → Fin 3 → EReal} (hQ : ∀ c y x, Spec.IsR (Q c y x))
    (hW : ∀ o c i j, Spec.IsR (W o c i j)) (dy dx : Fin 3) (o : Fin 96) (y x : Fin 64) : Spec.IsR (Spec.convTap Q W dy dx o y x) := by
  unfold Spec.convTap
  refine Spec.IsR.sum _ _ fun c => (hW _ _ _ _).mul ?_
  unfold Spec.qp
  split_ifs
  · exact hQ _ _ _
  · exact Spec.IsR.zero

/-- The convolution of reals is a real. -/
theorem isR_conv {Q : Fin 96 → Fin 64 → Fin 64 → EReal} {W : Fin 96 → Fin 96 → Fin 3 → Fin 3 → EReal} {B : Fin 96 → EReal}
    (hQ : ∀ c y x, Spec.IsR (Q c y x)) (hW : ∀ o c i j, Spec.IsR (W o c i j)) (hB : ∀ o, Spec.IsR (B o)) (o : Fin 96) (y x : Fin 64) :
    Spec.IsR (Spec.conv Q W B o y x) := by
  unfold Spec.conv
  have T := fun dy dx => isR_convTap hQ hW dy dx o y x
  exact (((((((((T 0 0).add (T 0 1)).add (T 0 2)).add (T 1 0)).add (T 1 1)).add (T 1 2)).add (T 2 0)).add (T 2 1)).add (T 2 2)).add (hB o)

/-- The logit of reals is a real. -/
theorem isR_logit {n : ℕ} {Q : Fin 96 → Fin 64 → Fin 64 → EReal} {W : Fin 96 → Fin 96 → Fin 3 → Fin 3 → EReal} {B : Fin 96 → EReal}
    {W2 : Fin n → Fin 96 → EReal} {B2 : Fin n → EReal} (hQ : ∀ c y x, Spec.IsR (Q c y x)) (hW : ∀ o c i j, Spec.IsR (W o c i j))
    (hB : ∀ o, Spec.IsR (B o)) (hW2 : ∀ o c, Spec.IsR (W2 o c)) (hB2 : ∀ o, Spec.IsR (B2 o)) (o : Fin n) (y x : Fin 64) :
    Spec.IsR (Spec.logit Q W B W2 B2 o y x) := by
  unfold Spec.logit
  exact (Spec.IsR.sum _ _ fun c => (hW2 _ _).mul (isR_gelu (isR_conv hQ hW hB _ _ _))).add (hB2 _)

/-! ## The softmax of reals -/

/-- The maximum of one real or more, taken from the least extended real on, is a real. -/
theorem fold_max {ι : Type*} (s : Finset ι) (l : ι → EReal) (h : ∀ i, Spec.IsR (l i)) (hs : s.Nonempty) : Spec.IsR (s.fold max ⊥ l) := by
  classical
  induction hs using Finset.Nonempty.cons_induction with
  | singleton a => rw [Finset.fold_singleton, max_bot_right]; exact h a
  | cons a s ha hs ih =>
    rw [Finset.fold_cons]
    rcases max_choice (l a) (s.fold max ⊥ l) with e | e <;> rw [e]
    · exact h a
    · exact ih

/-- A sum of coerced reals is the coerced sum. -/
theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A softmax weight of real logits is a nonnegative real. -/
theorem soft_nonneg (l : Fin 63 → EReal) (h : ∀ k, Spec.IsR (l k)) (j : Fin 63) : ∃ A : ℝ, 0 ≤ A ∧ Spec.soft l j = (A : EReal) := by
  obtain ⟨M, hM⟩ := fold_max Finset.univ l h Finset.univ_nonempty
  choose r hr using h
  have he : ∀ k, Ideal.exp (l k - (M : EReal)) = ((Real.exp (r k - M) : ℝ) : EReal) := fun k => by
    rw [hr k, ← EReal.coe_sub]; rfl
  have hpos : 0 < ∑ k : Fin 63, Real.exp (r k - M) := Finset.sum_pos (fun k _ => Real.exp_pos _) Finset.univ_nonempty
  refine ⟨Real.exp (r j - M) * (∑ k : Fin 63, Real.exp (r k - M))⁻¹, mul_nonneg (Real.exp_pos _).le (inv_nonneg.mpr hpos.le), ?_⟩
  unfold Spec.soft Ideal.div
  simp only [hM, he, sum_coe]
  rw [if_neg (by exact_mod_cast hpos.ne'), ← EReal.coe_inv, ← EReal.coe_mul]

/-- Under the precondition every attention weight of the kernel's arguments is a nonnegative real. -/
theorem attn_nonneg [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) (i : Fin 4) (j : Fin 63) (y x : Fin 64) :
    ∃ A : ℝ, 0 ≤ A ∧ Spec.attn (KVal.kQ m c) (KVal.kAW1 m c) (KVal.kAB1 m c) (KVal.kAW2 m c) (KVal.kAB2 m c) i j y x = (A : EReal) := by
  obtain ⟨h0, h6, h7, h8, h9⟩ := fn_isR _ _ _ _ _ _ _ _ _ _ _ _ _ _ (h c)
  exact soft_nonneg _ (fun k => isR_logit (fun _ _ _ => h0 _) (fun _ _ _ _ => h6 _) (fun _ => h7 _) (fun _ _ => h8 _) (fun _ => h9 _) _ _ _) j

end Cert.Finite
-- ==== Proof.lean ====
module

public import proofs.«01_k».proof.Defs
public import proofs.«01_k».proof.Proof.Gen.Kernel.Frame
public import proofs.«01_k».proof.Proof.Gen.Version.Frame
public import proofs.«01_k».proof.Proof.Gen.VersionIdeal.Frame
public import proofs.«01_k».proof.Proof.KRun
public import proofs.«01_k».proof.Proof.RefC
public import proofs.«01_k».proof.Proof.Finite
public import Idealize.ShloMosaic.Adequacy
public import Idealize.ShloMosaic.Init

@[expose] public section

noncomputable section

namespace Cert.Proof

open Idealize.ShloMosaic Idealize.SL.Sem

/-- The version with its polynomial terminates with its arguments unchanged and every counter zero. -/
theorem frame_version : Cert.quiescent_Version := fun m ρ _ => Cert.Version.Gen.frame m ρ

/-- The same of that version read over extended reals. -/
theorem frame_versionIdeal : Cert.quiescent_VersionIdeal := fun m ρ _ => Cert.VersionIdeal.Gen.frame m ρ

/-- The version reads two signs off floats' words, each of an array of positions by channels; the rule states what such a reading means. -/
theorem preserves_version : Cert.preserves_Version_VersionIdeal := IdealRules.sign_bit.statement _ _

/-- The printed kernel terminates with its arguments unchanged and every counter zero. -/
theorem frame_kernel : Cert.quiescent_Kernel := fun m ρ _ => Cert.Kernel.Gen.frame m ρ

/-- The same of the kernel read over extended reals. -/
theorem frame_kernelIdeal : Cert.quiescent_KernelIdeal := fun m ρ _ => Cert.KernelIdeal.Gen.frame m ρ

/-- The same under the precondition, which the termination does not need. -/
theorem frame_kernelIdeal_pre [Cert.Pre_finite.Facts] : Cert.quiescent_KernelIdeal_pre_finite := fun m ρ _ => Cert.KernelIdeal.Gen.frame m ρ

/-- The reference terminates with its arguments unchanged; it declares no semaphore, so every counter is zero. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The same under the precondition, which the termination does not need. -/
theorem frame_referenceIdeal_pre [Cert.Pre_finite.Facts] : Cert.quiescent_ReferenceIdeal_pre_finite := fun m ρ _ =>
  frame_referenceIdeal m ρ trivial

/-- On equal arguments the mathematics' result read from the reference's memory is the one read from the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (o : Fin 96) (y x : Fin 64) : Ref.refResult (StableHlo.launchContents m' c) o y x = KVal.kResult m c o y x := by
  have e0 : Ref.aQ (StableHlo.launchContents m' c) = KVal.kQ m c := by funext k y x; exact congrFun h0 (ix4 0 k y x)
  have e1 : Ref.aX (StableHlo.launchContents m' c) = KVal.kX m c := by funext t k y x; exact congrFun h1 (ix5 t 0 k y x)
  have e2 : Ref.aOW1 (StableHlo.launchContents m' c) = KVal.kOW1 m c := by funext o k i j; exact congrFun h2 (ix4 o k i j)
  have e3 : Ref.aOB1 (StableHlo.launchContents m' c) = KVal.kOB1 m c := by funext o; exact congrFun h3 (ix1 o)
  have e4 : Ref.aOW2 (StableHlo.launchContents m' c) = KVal.kOW2 m c := by funext o k; exact congrFun h4 (ix4 o k 0 0)
  have e5 : Ref.aOB2 (StableHlo.launchContents m' c) = KVal.kOB2 m c := by funext o; exact congrFun h5 (ix1 o)
  have e6 : Ref.aAW1 (StableHlo.launchContents m' c) = KVal.kAW1 m c := by funext o k i j; exact congrFun h6 (ix4 o k i j)
  have e7 : Ref.aAB1 (StableHlo.launchContents m' c) = KVal.kAB1 m c := by funext o; exact congrFun h7 (ix1 o)
  have e8 : Ref.aAW2 (StableHlo.launchContents m' c) = KVal.kAW2 m c := by funext o k; exact congrFun h8 (ix4 o k 0 0)
  have e9 : Ref.aAB2 (StableHlo.launchContents m' c) = KVal.kAB2 m c := by funext o; exact congrFun h9 (ix1 o)
  have e10 : Ref.aVW (StableHlo.launchContents m' c) = KVal.kVW m c := by funext o k; exact congrFun h10 (ix4 o k 0 0)
  have e11 : Ref.aVB (StableHlo.launchContents m' c) = KVal.kVB m c := by funext o; exact congrFun h11 (ix1 o)
  have e12 : Ref.aUW (StableHlo.launchContents m' c) = KVal.kUW m c := by funext o k; exact congrFun h12 (ix4 o k 0 0)
  have e13 : Ref.aUB (StableHlo.launchContents m' c) = KVal.kUB m c := by funext o; exact congrFun h13 (ix1 o)
  unfold Ref.refResult KVal.kResult
  rw [e0, e1, e2, e3, e4, e5, e6, e7, e8, e9, e10, e11, e12, e13]

/-- Where the precondition holds the kernel and the reference leave one result. -/
theorem algebraic [Cert.Pre_finite.Facts] : Cert.algebraic_KernelIdeal_ReferenceIdeal_pre_finite := by
  intro m g m' g' hpre hargs
  refine ⟨fun c => Cert.KernelIdeal.Gen.W9 m g c (Proc.devRef .tc Cert.KernelIdeal.main_v39), KRun.run m g,
    (θ_run Cert.ReferenceIdeal.defs _ _).mono (fun r h c => ⟨?_, (h c).2⟩) (Ref.run_at m' g')⟩
  funext i
  idx_vars i
  obtain rfl : i0 = 0 := Subsingleton.elim _ _
  obtain ⟨h0, h1, h2, h3, h4, h5, h6, h7, h8, h9, h10, h11, h12, h13⟩ := hargs c
  exact ((h c).1 i1 i2 i3).trans ((result_eq m m' c h0 h1 h2 h3 h4 h5 h6 h7 h8 h9 h10 h11 h12 h13 i1 i2 i3).trans
    (KVal.W9_v39 m g c (Finite.attn_nonneg m hpre c) i1 i2 i3).symm)

/-- All the claims, with the side conditions of the printed programs. -/
theorem claim : Cert.Claim :=
  ⟨Cert.Version.Gen.facts, Cert.VersionIdeal.Gen.facts, Cert.Kernel.Gen.facts, Cert.KernelIdeal.Gen.facts, Cert.ReferenceIdeal.Gen.facts, Finite.facts,
    frame_version, frame_versionIdeal, frame_kernel, frame_kernelIdeal, @frame_kernelIdeal_pre Finite.facts, frame_referenceIdeal,
    @frame_referenceIdeal_pre Finite.facts, preserves_version, trivial, @algebraic Finite.facts⟩

end Cert.Proof

end
